-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v190) = v0 c
          ∧ r.2.mem ((c.tc : Thread Cert.ReferenceIdeal.nD Cert.ReferenceIdeal.τ).loc Cert.ReferenceIdeal.main_v211) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x32x32x32x32 : Shape := ⟨5, ![4, 32, 32, 32, 32]⟩
abbrev S4x32x64x64x64 : Shape := ⟨5, ![4, 32, 64, 64, 64]⟩
abbrev S4x32x32x32x3 : Shape := ⟨5, ![4, 32, 32, 32, 3]⟩
abbrev S_ : Shape := ⟨0, ![]⟩

class Facts : Prop where
  bcast_S_S4x32x32x32x32 : S_.BroadcastsInDim S4x32x32x32x32 (![] : Fin 0 → Fin S4x32x32x32x32.rank)
  reducesTo_S4x32x32x32x32_S_d0_1_2_3_4 : S4x32x32x32x32.ReducesTo [0, 1, 2, 3, 4] S_
  h_S_ : 0 < S_.numel
  bcast_S_S4x32x64x64x64 : S_.BroadcastsInDim S4x32x64x64x64 (![] : Fin 0 → Fin S4x32x64x64x64.rank)
  reducesTo_S4x32x64x64x64_S_d0_1_2_3_4 : S4x32x64x64x64.ReducesTo [0, 1, 2, 3, 4] S_

variable [Facts]

def fn {F : FTy → Type} [FloatOps F] (main_arg0 : FVec F S4x32x32x32x32 .f32) (main_arg1 : FVec F S4x32x64x64x64 .f32) (main_arg2 : FVec F S4x32x32x32x3 .f32) (main_arg3 : IVec S_ 32) (main_arg4 : IVec S_ 32) (main_arg5 : IVec S_ 32) (main_arg6 : IVec S_ 32) : IVec S_ 1 :=
  let main_v0 : FVec F S4x32x32x32x32 .f32 := Host.absf main_arg0
  let main_cst : FVec F S_ .f32 := constant S_ .f32 0x7F800000#32
  let main_v1 : FVec F S4x32x32x32x32 .f32 := broadcastInDim S4x32x32x32x32 ![] bcast_S_S4x32x32x32x32 main_cst
  let main_v2 : IVec S4x32x32x32x32 1 := cmpf .olt main_v0 main_v1
  let main_c : IVec S_ 1 := constantI S_ 1 1#1
  let main_v3 : IVec S_ 1 := (fun x v => Host.reduce IntOp.andi x v reducesTo_S4x32x32x32x32_S_d0_1_2_3_4 h_S_) main_v2 main_c
  let main_v4 : FVec F S4x32x64x64x64 .f32 := Host.absf main_arg1
  let main_cst_0 : FVec F S_ .f32 := constant S_ .f32 0x7F800000#32
  let main_v5 : FVec F S4x32x64x64x64 .f32 := broadcastInDim S4x32x64x64x64 ![] bcast_S_S4x32x64x64x64 main_cst_0
  let main_v6 : IVec S4x32x64x64x64 1 := cmpf .olt main_v4 main_v5
  let main_c_1 : IVec S_ 1 := constantI S_ 1 1#1
  let main_v7 : IVec S_ 1 := (fun x v => Host.reduce IntOp.andi x v reducesTo_S4x32x64x64x64_S_d0_1_2_3_4 h_S_) main_v6 main_c_1
  let main_v8 : IVec S_ 1 := andi main_v3 main_v7
  main_v8
-- ==== Kernel.lean ====
abbrev S4x32x32x32x32 : Shape := ⟨5, ![4, 32, 32, 32, 32]⟩
abbrev S4x32x64x64x64 : Shape := ⟨5, ![4, 32, 64, 64, 64]⟩
abbrev S4x32x32x32x3 : Shape := ⟨5, ![4, 32, 32, 32, 3]⟩
abbrev S_ : Shape := ⟨0, ![]⟩
abbrev S4x32768x3 : Shape := ⟨3, ![4, 32768, 3]⟩
abbrev S4x32x32768 : Shape := ⟨3, ![4, 32, 32768]⟩
abbrev S4x32768x32 : Shape := ⟨3, ![4, 32768, 32]⟩
abbrev S4x64x64x64x32 : Shape := ⟨5, ![4, 64, 64, 64, 32]⟩
abbrev S4x4096x2048 : Shape := ⟨3, ![4, 4096, 2048]⟩
abbrev S4x32768x1 : Shape := ⟨3, ![4, 32768, 1]⟩
abbrev S1x512x3 : Shape := ⟨3, ![1, 512, 3]⟩
abbrev S1x512x32 : Shape := ⟨3, ![1, 512, 32]⟩
abbrev S1x1024x2048 : Shape := ⟨3, ![1, 1024, 2048]⟩
abbrev S512x3 : Shape := ⟨2, ![512, 3]⟩
abbrev S512x1 : Shape := ⟨2, ![512, 1]⟩
abbrev S512x1024 : Shape := ⟨2, ![512, 1024]⟩
abbrev S512x2048 : Shape := ⟨2, ![512, 2048]⟩
abbrev S512x32 : Shape := ⟨2, ![512, 32]⟩
abbrev S32x2048 : Shape := ⟨2, ![32, 2048]⟩
abbrev S1024x2048 : Shape := ⟨2, ![1024, 2048]⟩
abbrev S1x512x1 : Shape := ⟨3, ![1, 512, 1]⟩
abbrev S1536x1024 : Shape := ⟨2, ![1536, 1024]⟩
abbrev S1536x2048 : Shape := ⟨2, ![1536, 2048]⟩
abbrev S512 : Shape := ⟨1, ![512]⟩

abbrev nBuf : Space → Nat
  | .hbm => 21
  | .vmem => 21
  | .smem => 0
  | _ => 0

abbrev bufTy : (tb : Table) → Fin (tcTables nBuf tb) → BufTy
  | .hbm, ⟨0, _⟩ => ⟨S4x32x32x32x32, .f32⟩
  | .hbm, ⟨1, _⟩ => ⟨S4x32x64x64x64, .f32⟩
  | .hbm, ⟨2, _⟩ => ⟨S4x32x32x32x3, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S4x32768x3, .f32⟩
  | .hbm, ⟨8, _⟩ => ⟨S4x32x32768, .f32⟩
  | .hbm, ⟨9, _⟩ => ⟨S4x32768x32, .f32⟩
  | .hbm, ⟨10, _⟩ => ⟨S4x64x64x64x32, .f32⟩
  | .hbm, ⟨11, _⟩ => ⟨S4x4096x2048, .f32⟩
  | .hbm, ⟨12, _⟩ => ⟨S4x4096x2048, .bf16⟩
  | .hbm, ⟨13, _⟩ => ⟨S4x4096x2048, .f32⟩
  | .hbm, ⟨14, _⟩ => ⟨S4x64x64x64x32, .f32⟩
  | .hbm, ⟨15, _⟩ => ⟨S4x32x64x64x64, .f32⟩
  | .hbm, ⟨16, _⟩ => ⟨S4x32768x1, .f32⟩
  | .hbm, ⟨17, _⟩ => ⟨S4x32768x1, .f32⟩
  | .hbm, ⟨18, _⟩ => ⟨S4x32768x1, .f32⟩
  | .hbm, ⟨19, _⟩ => ⟨S4x32768x3, .f32⟩
  | .hbm, ⟨20, _⟩ => ⟨S4x32x32x32x3, .f32⟩
  | .local _ .vmem, ⟨0, _⟩ => ⟨S1x512x3, .f32⟩
  | .local _ .vmem, ⟨1, _⟩ => ⟨S1x512x3, .f32⟩
  | .local _ .vmem, ⟨2, _⟩ => ⟨S1x512x32, .f32⟩
  | .local _ .vmem, ⟨3, _⟩ => ⟨S1x512x32, .f32⟩
  | .local _ .vmem, ⟨4, _⟩ => ⟨S1x1024x2048, .f32⟩
  | .local _ .vmem, ⟨5, _⟩ => ⟨S1x1024x2048, .f32⟩
  | .local _ .vmem, ⟨6, _⟩ => ⟨S1x512x3, .f32⟩
  | .local _ .vmem, ⟨7, _⟩ => ⟨S1x512x3, .f32⟩
  | .local _ .vmem, ⟨8, _⟩ => ⟨S1x512x32, .f32⟩
  | .local _ .vmem, ⟨9, _⟩ => ⟨S1x512x32, .f32⟩
  | .local _ .vmem, ⟨10, _⟩ => ⟨S1x1024x2048, .bf16⟩
  | .local _ .vmem, ⟨11, _⟩ => ⟨S1x1024x2048, .bf16⟩
  | .local _ .vmem, ⟨12, _⟩ => ⟨S1x512x1, .f32⟩
  | .local _ .vmem, ⟨13, _⟩ => ⟨S1x512x1, .f32⟩
  | .local _ .vmem, ⟨14, _⟩ => ⟨S1x512x1, .f32⟩
  | .local _ .vmem, ⟨15, _⟩ => ⟨S1x512x1, .f32⟩
  | .local _ .vmem, ⟨16, _⟩ => ⟨S1x512x1, .f32⟩
  | .local _ .vmem, ⟨17, _⟩ => ⟨S1x512x1, .f32⟩
  | .local _ .vmem, ⟨18, _⟩ => ⟨S512x2048, .f32⟩
  | .local _ .vmem, ⟨19, _⟩ => ⟨S512x2048, .f32⟩
  | .local _ .vmem, ⟨20, _⟩ => ⟨S512x2048, .f32⟩
  | _, _ => ⟨S4x32x32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_v0_0 : Ref sig .tc := ⟨.hbm, 15, rfl⟩
abbrev main_call0_v9_0 : Ref sig .tc := ⟨.hbm, 16, rfl⟩
abbrev main_call0_v9_1 : Ref sig .tc := ⟨.hbm, 17, rfl⟩
abbrev main_call0_v9_2 : Ref sig .tc := ⟨.hbm, 18, rfl⟩
abbrev main_call0_v10 : Ref sig .tc := ⟨.hbm, 19, rfl⟩
abbrev main_v0_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_scratch0 : Ref sig .tc := ⟨.vmem, 18, rfl⟩
abbrev cc1_scratch1 : Ref sig .tc := ⟨.vmem, 19, rfl⟩
abbrev cc1_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨3, ![4, 4, 64], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 64, 4], ![false, false, false]⟩

def k1_cond2 (i : grid1.Coords) : BitVec 1 :=
  let arg2 : BitVec 32 := BitVec.ofNat 32 (i 2).val
  let c3_i32 : BitVec 32 := 3#32
  let v159 : BitVec 1 := Scalar.cmpi .eq arg2 c3_i32
  let v160 : BitVec 32 := Scalar.extui v159
  let c0_i32_53 : BitVec 32 := 0#32
  let v161 : BitVec 1 := Scalar.cmpi .ne v160 c0_i32_53
  v161

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x1024x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x512x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1x512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S1x512x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]
-- ==== ReferenceIdeal.lean ====
abbrev S4x32x32x32x32 : Shape := ⟨5, ![4, 32, 32, 32, 32]⟩
abbrev S4x32x64x64x64 : Shape := ⟨5, ![4, 32, 64, 64, 64]⟩
abbrev S4x32x32x32x3 : Shape := ⟨5, ![4, 32, 32, 32, 3]⟩
abbrev S_ : Shape := ⟨0, ![]⟩
abbrev S4x32768x3 : Shape := ⟨3, ![4, 32768, 3]⟩
abbrev S4x32768x1 : Shape := ⟨3, ![4, 32768, 1]⟩
abbrev S4x32768 : Shape := ⟨2, ![4, 32768]⟩
abbrev S4 : Shape := ⟨1, ![4]⟩
abbrev S4x1x1x1x1 : Shape := ⟨5, ![4, 1, 1, 1, 1]⟩
abbrev S2 : Shape := ⟨1, ![2]⟩
abbrev S1x1x2 : Shape := ⟨3, ![1, 1, 2]⟩
abbrev S4x32768x2 : Shape := ⟨3, ![4, 32768, 2]⟩
abbrev S4x32768x1x1x2 : Shape := ⟨5, ![4, 32768, 1, 1, 2]⟩
abbrev S4x32768x1x2x1 : Shape := ⟨5, ![4, 32768, 1, 2, 1]⟩
abbrev S4x32768x2x1x1 : Shape := ⟨5, ![4, 32768, 2, 1, 1]⟩
abbrev S4x32768x1x2x2 : Shape := ⟨5, ![4, 32768, 1, 2, 2]⟩
abbrev S4x32768x2x2x2 : Shape := ⟨5, ![4, 32768, 2, 2, 2]⟩
abbrev S4x32768x2x2x2x1 : Shape := ⟨6, ![4, 32768, 2, 2, 2, 1]⟩
abbrev S4x32768x2x2x2x4 : Shape := ⟨6, ![4, 32768, 2, 2, 2, 4]⟩
abbrev S4x32768x2x2x2x32 : Shape := ⟨6, ![4, 32768, 2, 2, 2, 32]⟩
abbrev S4x32768x32 : Shape := ⟨3, ![4, 32768, 32]⟩
abbrev S4x32x32768 : Shape := ⟨3, ![4, 32, 32768]⟩
abbrev S4x32768x2x2 : Shape := ⟨4, ![4, 32768, 2, 2]⟩
abbrev S4x32768x1x2 : Shape := ⟨4, ![4, 32768, 1, 2]⟩

abbrev nBuf : Space → Nat
  | .hbm => 286
  | .vmem => 0
  | .smem => 0
  | _ => 0

abbrev hbmTy0_0 (i : Nat) : BufTy := match i % 128 with
  | 0 => ⟨S4x32x32x32x32, .f32⟩
  | 1 => ⟨S4x32x64x64x64, .f32⟩
  | 2 => ⟨S4x32x32x32x3, .f32⟩
  | 3 => ⟨S_, .i32⟩
  | 4 => ⟨S_, .i32⟩
  | 5 => ⟨S_, .i32⟩
  | 6 => ⟨S_, .i32⟩
  | 7 => ⟨S4x32768x3, .f32⟩
  | 8 => ⟨S4x32768x1, .f32⟩
  | 9 => ⟨S4x32768, .f32⟩
  | 10 => ⟨S_, .f32⟩
  | 11 => ⟨S4x32768, .f32⟩
  | 12 => ⟨S4x32768, .f32⟩
  | 13 => ⟨S_, .f32⟩
  | 14 => ⟨S4x32768, .f32⟩
  | 15 => ⟨S4x32768, .f32⟩
  | 16 => ⟨S_, .f32⟩
  | 17 => ⟨S4x32768, .f32⟩
  | 18 => ⟨S4x32768, .f32⟩
  | 19 => ⟨S4x32768x1, .f32⟩
  | 20 => ⟨S4x32768, .f32⟩
  | 21 => ⟨S_, .f32⟩
  | 22 => ⟨S4x32768, .f32⟩
  | 23 => ⟨S4x32768, .f32⟩
  | 24 => ⟨S_, .f32⟩
  | 25 => ⟨S4x32768, .f32⟩
  | 26 => ⟨S4x32768, .f32⟩
  | 27 => ⟨S_, .f32⟩
  | 28 => ⟨S4x32768, .f32⟩
  | 29 => ⟨S4x32768, .f32⟩
  | 30 => ⟨S4x32768x1, .f32⟩
  | 31 => ⟨S4x32768, .f32⟩
  | 32 => ⟨S_, .f32⟩
  | 33 => ⟨S4x32768, .f32⟩
  | 34 => ⟨S4x32768, .f32⟩
  | 35 => ⟨S_, .f32⟩
  | 36 => ⟨S4x32768, .f32⟩
  | 37 => ⟨S4x32768, .f32⟩
  | 38 => ⟨S_, .f32⟩
  | 39 => ⟨S4x32768, .f32⟩
  | 40 => ⟨S4x32768, .f32⟩
  | 41 => ⟨S4x32768, .f32⟩
  | 42 => ⟨S4x32768, .f32⟩
  | 43 => ⟨S4x32768, .f32⟩
  | 44 => ⟨S4x32768, .f32⟩
  | 45 => ⟨S4x32768, .f32⟩
  | 46 => ⟨S4x32768, .f32⟩
  | 47 => ⟨S4x32768, .i32⟩
  | 48 => ⟨S4x32768, .i32⟩
  | 49 => ⟨S4x32768, .i32⟩
  | 50 => ⟨S4, .i32⟩
  | 51 => ⟨S4x1x1x1x1, .i32⟩
  | 52 => ⟨S2, .i32⟩
  | 53 => ⟨S4x32768x1, .i32⟩
  | 54 => ⟨S1x1x2, .i32⟩
  | 55 => ⟨S4x32768x2, .i32⟩
  | 56 => ⟨S4x32768x2, .i32⟩
  | 57 => ⟨S4x32768x2, .i32⟩
  | 58 => ⟨S4x32768x1x1x2, .i32⟩
  | 59 => ⟨S4x32768x1, .i32⟩
  | 60 => ⟨S1x1x2, .i32⟩
  | 61 => ⟨S4x32768x2, .i32⟩
  | 62 => ⟨S4x32768x2, .i32⟩
  | 63 => ⟨S4x32768x2, .i32⟩
  | 64 => ⟨S4x32768x1x2x1, .i32⟩
  | 65 => ⟨S4x32768x1, .i32⟩
  | 66 => ⟨S1x1x2, .i32⟩
  | 67 => ⟨S4x32768x2, .i32⟩
  | 68 => ⟨S4x32768x2, .i32⟩
  | 69 => ⟨S4x32768x2, .i32⟩
  | 70 => ⟨S4x32768x2x1x1, .i32⟩
  | 71 => ⟨S_, .i32⟩
  | 72 => ⟨S4x32768x1x1x2, .i32⟩
  | 73 => ⟨S4x32768x1x1x2, .i1⟩
  | 74 => ⟨S_, .i32⟩
  | 75 => ⟨S4x32768x1x1x2, .i32⟩
  | 76 => ⟨S4x32768x1x1x2, .i1⟩
  | 77 => ⟨S4x32768x1x1x2, .i1⟩
  | 78 => ⟨S_, .i32⟩
  | 79 => ⟨S4x32768x1x2x1, .i32⟩
  | 80 => ⟨S4x32768x1x2x1, .i1⟩
  | 81 => ⟨S4x32768x1x2x2, .i1⟩
  | 82 => ⟨S4x32768x1x2x2, .i1⟩
  | 83 => ⟨S4x32768x1x2x2, .i1⟩
  | 84 => ⟨S_, .i32⟩
  | 85 => ⟨S4x32768x1x2x1, .i32⟩
  | 86 => ⟨S4x32768x1x2x1, .i1⟩
  | 87 => ⟨S4x32768x1x2x2, .i1⟩
  | 88 => ⟨S4x32768x1x2x2, .i1⟩
  | 89 => ⟨S_, .i32⟩
  | 90 => ⟨S4x32768x2x1x1, .i32⟩
  | 91 => ⟨S4x32768x2x1x1, .i1⟩
  | 92 => ⟨S4x32768x2x2x2, .i1⟩
  | 93 => ⟨S4x32768x2x2x2, .i1⟩
  | 94 => ⟨S4x32768x2x2x2, .i1⟩
  | 95 => ⟨S_, .i32⟩
  | 96 => ⟨S4x32768x2x1x1, .i32⟩
  | 97 => ⟨S4x32768x2x1x1, .i1⟩
  | 98 => ⟨S4x32768x2x2x2, .i1⟩
  | 99 => ⟨S4x32768x2x2x2, .i1⟩
  | 100 => ⟨S_, .i32⟩
  | 101 => ⟨S_, .i32⟩
  | 102 => ⟨S_, .i32⟩
  | 103 => ⟨S4x32768x1x1x2, .i32⟩
  | 104 => ⟨S4x32768x1x1x2, .i32⟩
  | 105 => ⟨S_, .i32⟩
  | 106 => ⟨S4x32768x1x1x2, .i32⟩
  | 107 => ⟨S4x32768x1x1x2, .i32⟩
  | 108 => ⟨S_, .i32⟩
  | 109 => ⟨S_, .i32⟩
  | 110 => ⟨S_, .i32⟩
  | 111 => ⟨S4x32768x1x2x1, .i32⟩
  | 112 => ⟨S4x32768x1x2x1, .i32⟩
  | 113 => ⟨S_, .i32⟩
  | 114 => ⟨S4x32768x1x2x1, .i32⟩
  | 115 => ⟨S4x32768x1x2x1, .i32⟩
  | 116 => ⟨S_, .i32⟩
  | 117 => ⟨S_, .i32⟩
  | 118 => ⟨S_, .i32⟩
  | 119 => ⟨S4x32768x2x1x1, .i32⟩
  | 120 => ⟨S4x32768x2x1x1, .i32⟩
  | 121 => ⟨S_, .i32⟩
  | 122 => ⟨S4x32768x2x1x1, .i32⟩
  | 123 => ⟨S4x32768x2x1x1, .i32⟩
  | 124 => ⟨S_, .i32⟩
  | 125 => ⟨S4x1x1x1x1, .i32⟩
  | 126 => ⟨S4x1x1x1x1, .i1⟩
  | 127 => ⟨S_, .i32⟩
  | _ => ⟨S4x32x32x32x32, .f32⟩

abbrev hbmTy0_1 (i : Nat) : BufTy := match i % 128 with
  | 0 => ⟨S4x1x1x1x1, .i32⟩
  | 1 => ⟨S4x1x1x1x1, .i32⟩
  | 2 => ⟨S4x1x1x1x1, .i32⟩
  | 3 => ⟨S_, .i32⟩
  | 4 => ⟨S4x32768x2x1x1, .i32⟩
  | 5 => ⟨S4x32768x2x1x1, .i1⟩
  | 6 => ⟨S_, .i32⟩
  | 7 => ⟨S4x32768x2x1x1, .i32⟩
  | 8 => ⟨S4x32768x2x1x1, .i32⟩
  | 9 => ⟨S4x32768x2x1x1, .i32⟩
  | 10 => ⟨S_, .i32⟩
  | 11 => ⟨S4x32768x1x2x1, .i32⟩
  | 12 => ⟨S4x32768x1x2x1, .i1⟩
  | 13 => ⟨S_, .i32⟩
  | 14 => ⟨S4x32768x1x2x1, .i32⟩
  | 15 => ⟨S4x32768x1x2x1, .i32⟩
  | 16 => ⟨S4x32768x1x2x1, .i32⟩
  | 17 => ⟨S_, .i32⟩
  | 18 => ⟨S4x32768x1x1x2, .i32⟩
  | 19 => ⟨S4x32768x1x1x2, .i1⟩
  | 20 => ⟨S_, .i32⟩
  | 21 => ⟨S4x32768x1x1x2, .i32⟩
  | 22 => ⟨S4x32768x1x1x2, .i32⟩
  | 23 => ⟨S4x32768x1x1x2, .i32⟩
  | 24 => ⟨S4x32768x2x2x2, .i32⟩
  | 25 => ⟨S4x32768x2x2x2, .i32⟩
  | 26 => ⟨S4x32768x2x2x2, .i32⟩
  | 27 => ⟨S4x32768x2x2x2, .i32⟩
  | 28 => ⟨S4x32768x2x2x2x1, .i32⟩
  | 29 => ⟨S4x32768x2x2x2x1, .i32⟩
  | 30 => ⟨S4x32768x2x2x2x1, .i32⟩
  | 31 => ⟨S4x32768x2x2x2x1, .i32⟩
  | 32 => ⟨S4x32768x2x2x2x4, .i32⟩
  | 33 => ⟨S4x32768x2x2x2x32, .f32⟩
  | 34 => ⟨S_, .f32⟩
  | 35 => ⟨S4x32768, .f32⟩
  | 36 => ⟨S4x32768, .f32⟩
  | 37 => ⟨S4x32768x1, .f32⟩
  | 38 => ⟨S4x32768x1, .f32⟩
  | 39 => ⟨S4x32768x2, .f32⟩
  | 40 => ⟨S4x32768x1x1x2, .f32⟩
  | 41 => ⟨S_, .f32⟩
  | 42 => ⟨S4x32768, .f32⟩
  | 43 => ⟨S4x32768, .f32⟩
  | 44 => ⟨S4x32768x1, .f32⟩
  | 45 => ⟨S4x32768x1, .f32⟩
  | 46 => ⟨S4x32768x2, .f32⟩
  | 47 => ⟨S4x32768x1x2x1, .f32⟩
  | 48 => ⟨S4x32768x1x2x2, .f32⟩
  | 49 => ⟨S4x32768x1x2x2, .f32⟩
  | 50 => ⟨S4x32768x1x2x2, .f32⟩
  | 51 => ⟨S_, .f32⟩
  | 52 => ⟨S4x32768, .f32⟩
  | 53 => ⟨S4x32768, .f32⟩
  | 54 => ⟨S4x32768x1, .f32⟩
  | 55 => ⟨S4x32768x1, .f32⟩
  | 56 => ⟨S4x32768x2, .f32⟩
  | 57 => ⟨S4x32768x2x1x1, .f32⟩
  | 58 => ⟨S4x32768x2x2x2, .f32⟩
  | 59 => ⟨S4x32768x2x2x2, .f32⟩
  | 60 => ⟨S4x32768x2x2x2, .f32⟩
  | 61 => ⟨S4x32768x2x2x2, .f32⟩
  | 62 => ⟨S4x32768x2x2x2, .f32⟩
  | 63 => ⟨S4x32768x2x2x2x1, .f32⟩
  | 64 => ⟨S4x32768x2x2x2x32, .f32⟩
  | 65 => ⟨S4x32768x2x2x2x32, .f32⟩
  | 66 => ⟨S_, .f32⟩
  | 67 => ⟨S4x32768x32, .f32⟩
  | 68 => ⟨S4x32x32768, .f32⟩
  | 69 => ⟨S4x32x32768, .f32⟩
  | 70 => ⟨S4x32768x32, .f32⟩
  | 71 => ⟨S4x32768x2x2x2x32, .f32⟩
  | 72 => ⟨S4x32768x2x2x2x32, .f32⟩
  | 73 => ⟨S_, .f32⟩
  | 74 => ⟨S4x32768x2x2x2, .f32⟩
  | 75 => ⟨S4x32768x2x2x2x1, .f32⟩
  | 76 => ⟨S4x32768x2x2x2x32, .f32⟩
  | 77 => ⟨S4x32768x2x2x2x32, .f32⟩
  | 78 => ⟨S_, .f32⟩
  | 79 => ⟨S4x32768x2x2x2, .f32⟩
  | 80 => ⟨S4x32768x2x2x2, .f32⟩
  | 81 => ⟨S4x32768x2x2x2, .f32⟩
  | 82 => ⟨S4x32768x2x2x2, .f32⟩
  | 83 => ⟨S_, .f32⟩
  | 84 => ⟨S4x32768x2, .f32⟩
  | 85 => ⟨S4x32768x2x1x1, .f32⟩
  | 86 => ⟨S4x32768x2x2x2, .f32⟩
  | 87 => ⟨S4x32768x2x2x2, .f32⟩
  | 88 => ⟨S_, .f32⟩
  | 89 => ⟨S4x32768x2x2, .f32⟩
  | 90 => ⟨S4x32768x1x2x2, .f32⟩
  | 91 => ⟨S_, .f32⟩
  | 92 => ⟨S4x32768x2, .f32⟩
  | 93 => ⟨S4x32768x1, .f32⟩
  | 94 => ⟨S4x32768, .f32⟩
  | 95 => ⟨S4x32768x1, .f32⟩
  | 96 => ⟨S4x32768, .f32⟩
  | 97 => ⟨S4x32768, .f32⟩
  | 98 => ⟨S4x32768, .f32⟩
  | 99 => ⟨S4x32768x1x2x2, .f32⟩
  | 100 => ⟨S4x32768x1x2x2, .f32⟩
  | 101 => ⟨S_, .f32⟩
  | 102 => ⟨S4x32768x1x2, .f32⟩
  | 103 => ⟨S4x32768x1x2x1, .f32⟩
  | 104 => ⟨S4x32768x1x2x2, .f32⟩
  | 105 => ⟨S4x32768x1x2x2, .f32⟩
  | 106 => ⟨S_, .f32⟩
  | 107 => ⟨S4x32768x1x2, .f32⟩
  | 108 => ⟨S4x32768x1x1x2, .f32⟩
  | 109 => ⟨S_, .f32⟩
  | 110 => ⟨S4x32768x2, .f32⟩
  | 111 => ⟨S4x32768x1, .f32⟩
  | 112 => ⟨S4x32768, .f32⟩
  | 113 => ⟨S4x32768x1, .f32⟩
  | 114 => ⟨S4x32768, .f32⟩
  | 115 => ⟨S4x32768, .f32⟩
  | 116 => ⟨S4x32768, .f32⟩
  | 117 => ⟨S_, .f32⟩
  | 118 => ⟨S4x32768x2, .f32⟩
  | 119 => ⟨S4x32768x1, .f32⟩
  | 120 => ⟨S4x32768, .f32⟩
  | 121 => ⟨S4x32768x1, .f32⟩
  | 122 => ⟨S4x32768, .f32⟩
  | 123 => ⟨S4x32768, .f32⟩
  | 124 => ⟨S4x32768, .f32⟩
  | 125 => ⟨S_, .f32⟩
  | 126 => ⟨S4x32x64x64x64, .f32⟩
  | 127 => ⟨S4x32x64x64x64, .f32⟩
  | _ => ⟨S4x32x32x32x32, .f32⟩

abbrev hbmTy0_2 (i : Nat) : BufTy := match i % 128 with
  | 0 => ⟨S_, .f32⟩
  | 1 => ⟨S4x32768, .f32⟩
  | 2 => ⟨S4x32768, .f32⟩
  | 3 => ⟨S_, .f32⟩
  | 4 => ⟨S4x32768, .f32⟩
  | 5 => ⟨S4x32768, .f32⟩
  | 6 => ⟨S4x32768x1, .f32⟩
  | 7 => ⟨S_, .f32⟩
  | 8 => ⟨S4x32768x3, .f32⟩
  | 9 => ⟨S_, .f32⟩
  | 10 => ⟨S4x32768, .f32⟩
  | 11 => ⟨S4x32768, .f32⟩
  | 12 => ⟨S_, .f32⟩
  | 13 => ⟨S4x32768, .f32⟩
  | 14 => ⟨S4x32768, .f32⟩
  | 15 => ⟨S4x32768x1, .f32⟩
  | 16 => ⟨S_, .f32⟩
  | 17 => ⟨S4x32768x3, .f32⟩
  | 18 => ⟨S4x32768x3, .f32⟩
  | 19 => ⟨S_, .f32⟩
  | 20 => ⟨S4x32768, .f32⟩
  | 21 => ⟨S4x32768, .f32⟩
  | 22 => ⟨S_, .f32⟩
  | 23 => ⟨S4x32768, .f32⟩
  | 24 => ⟨S4x32768, .f32⟩
  | 25 => ⟨S4x32768x1, .f32⟩
  | 26 => ⟨S_, .f32⟩
  | 27 => ⟨S4x32768x3, .f32⟩
  | 28 => ⟨S4x32768x3, .f32⟩
  | 29 => ⟨S4x32x32x32x3, .f32⟩
  | _ => ⟨S4x32x32x32x32, .f32⟩

abbrev hbmTy (i : Nat) : BufTy := match i / 128 with
  | 0 => hbmTy0_0 i
  | 1 => hbmTy0_1 i
  | 2 => hbmTy0_2 i
  | _ => ⟨S4x32x32x32x32, .f32⟩

abbrev bufTy : (tb : Table) → Fin (tcTables nBuf tb) → BufTy
  | .hbm, ⟨i, _⟩ => hbmTy i
  | _, _ => ⟨S4x32x32x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_cst_7 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_c : Ref sig .tc := ⟨.hbm, 71, rfl⟩
abbrev main_v55 : Ref sig .tc := ⟨.hbm, 72, rfl⟩
abbrev main_v56 : Ref sig .tc := ⟨.hbm, 73, rfl⟩
abbrev main_c_8 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_c_9 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_c_10 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_c_11 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_c_12 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_c_13 : Ref sig .tc := ⟨.hbm, 100, rfl⟩
abbrev main_c_14 : Ref sig .tc := ⟨.hbm, 101, rfl⟩
abbrev main_call0_v0 : Ref sig .tc := ⟨.hbm, 102, rfl⟩
abbrev main_call0_v1 : Ref sig .tc := ⟨.hbm, 103, rfl⟩
abbrev main_call0_v2 : Ref sig .tc := ⟨.hbm, 104, rfl⟩
abbrev main_call0_v3 : Ref sig .tc := ⟨.hbm, 105, rfl⟩
abbrev main_call0_v4 : Ref sig .tc := ⟨.hbm, 106, rfl⟩
abbrev main_v78 : Ref sig .tc := ⟨.hbm, 107, rfl⟩
abbrev main_c_15 : Ref sig .tc := ⟨.hbm, 108, rfl⟩
abbrev main_c_16 : Ref sig .tc := ⟨.hbm, 109, rfl⟩
abbrev main_call1_v0 : Ref sig .tc := ⟨.hbm, 110, rfl⟩
abbrev main_call1_v1 : Ref sig .tc := ⟨.hbm, 111, rfl⟩
abbrev main_call1_v2 : Ref sig .tc := ⟨.hbm, 112, rfl⟩
abbrev main_call1_v3 : Ref sig .tc := ⟨.hbm, 113, rfl⟩
abbrev main_call1_v4 : Ref sig .tc := ⟨.hbm, 114, rfl⟩
abbrev main_v79 : Ref sig .tc := ⟨.hbm, 115, rfl⟩
abbrev main_c_17 : Ref sig .tc := ⟨.hbm, 116, rfl⟩
abbrev main_c_18 : Ref sig .tc := ⟨.hbm, 117, rfl⟩
abbrev main_call2_v0 : Ref sig .tc := ⟨.hbm, 118, rfl⟩
abbrev main_call2_v1 : Ref sig .tc := ⟨.hbm, 119, rfl⟩
abbrev main_call2_v2 : Ref sig .tc := ⟨.hbm, 120, rfl⟩
abbrev main_call2_v3 : Ref sig .tc := ⟨.hbm, 121, rfl⟩
abbrev main_call2_v4 : Ref sig .tc := ⟨.hbm, 122, rfl⟩
abbrev main_v80 : Ref sig .tc := ⟨.hbm, 123, rfl⟩
abbrev main_c_19 : Ref sig .tc := ⟨.hbm, 124, rfl⟩
abbrev main_v81 : Ref sig .tc := ⟨.hbm, 125, rfl⟩
abbrev main_v82 : Ref sig .tc := ⟨.hbm, 126, rfl⟩
abbrev main_c_20 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_c_21 : Ref sig .tc := ⟨.hbm, 131, rfl⟩
abbrev main_v86 : Ref sig .tc := ⟨.hbm, 132, rfl⟩
abbrev main_v87 : Ref sig .tc := ⟨.hbm, 133, rfl⟩
abbrev main_c_22 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_c_23 : Ref sig .tc := ⟨.hbm, 138, rfl⟩
abbrev main_v91 : Ref sig .tc := ⟨.hbm, 139, rfl⟩
abbrev main_v92 : Ref sig .tc := ⟨.hbm, 140, rfl⟩
abbrev main_c_24 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_c_25 : Ref sig .tc := ⟨.hbm, 145, rfl⟩
abbrev main_v96 : Ref sig .tc := ⟨.hbm, 146, rfl⟩
abbrev main_v97 : Ref sig .tc := ⟨.hbm, 147, rfl⟩
abbrev main_c_26 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_cst_27 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_cst_28 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_cst_29 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_cst_30 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_cst_31 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_cst_32 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_cst_33 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_cst_34 : Ref sig .tc := ⟨.hbm, 216, rfl⟩
abbrev main_v158 : Ref sig .tc := ⟨.hbm, 217, rfl⟩
abbrev main_v159 : Ref sig .tc := ⟨.hbm, 218, rfl⟩
abbrev main_cst_35 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_cst_36 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_cst_37 : Ref sig .tc := ⟨.hbm, 234, rfl⟩
abbrev main_v173 : Ref sig .tc := ⟨.hbm, 235, rfl⟩
abbrev main_v174 : Ref sig .tc := ⟨.hbm, 236, rfl⟩
abbrev main_cst_38 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_cst_39 : Ref sig .tc := ⟨.hbm, 245, rfl⟩
abbrev main_v182 : Ref sig .tc := ⟨.hbm, 246, rfl⟩
abbrev main_v183 : Ref sig .tc := ⟨.hbm, 247, rfl⟩
abbrev main_v184 : Ref sig .tc := ⟨.hbm, 248, rfl⟩
abbrev main_v185 : Ref sig .tc := ⟨.hbm, 249, rfl⟩
abbrev main_v186 : Ref sig .tc := ⟨.hbm, 250, rfl⟩
abbrev main_v187 : Ref sig .tc := ⟨.hbm, 251, rfl⟩
abbrev main_v188 : Ref sig .tc := ⟨.hbm, 252, rfl⟩
abbrev main_cst_40 : Ref sig .tc := ⟨.hbm, 253, rfl⟩
abbrev main_v189 : Ref sig .tc := ⟨.hbm, 254, rfl⟩
abbrev main_v190 : Ref sig .tc := ⟨.hbm, 255, rfl⟩
abbrev main_cst_41 : Ref sig .tc := ⟨.hbm, 256, rfl⟩
abbrev main_v191 : Ref sig .tc := ⟨.hbm, 257, rfl⟩
abbrev main_v192 : Ref sig .tc := ⟨.hbm, 258, rfl⟩
abbrev main_cst_42 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩
abbrev main_cst_43 : Ref sig .tc := ⟨.hbm, 263, rfl⟩
abbrev main_v196 : Ref sig .tc := ⟨.hbm, 264, rfl⟩
abbrev main_cst_44 : Ref sig .tc := ⟨.hbm, 265, rfl⟩
abbrev main_v197 : Ref sig .tc := ⟨.hbm, 266, rfl⟩
abbrev main_v198 : Ref sig .tc := ⟨.hbm, 267, rfl⟩
abbrev main_cst_45 : Ref sig .tc := ⟨.hbm, 268, rfl⟩
abbrev main_v199 : Ref sig .tc := ⟨.hbm, 269, rfl⟩
abbrev main_v200 : Ref sig .tc := ⟨.hbm, 270, rfl⟩
abbrev main_v201 : Ref sig .tc := ⟨.hbm, 271, rfl⟩
abbrev main_cst_46 : Ref sig .tc := ⟨.hbm, 272, rfl⟩
abbrev main_v202 : Ref sig .tc := ⟨.hbm, 273, rfl⟩
abbrev main_v203 : Ref sig .tc := ⟨.hbm, 274, rfl⟩
abbrev main_cst_47 : Ref sig .tc := ⟨.hbm, 275, rfl⟩
abbrev main_v204 : Ref sig .tc := ⟨.hbm, 276, rfl⟩
abbrev main_v205 : Ref sig .tc := ⟨.hbm, 277, rfl⟩
abbrev main_cst_48 : Ref sig .tc := ⟨.hbm, 278, rfl⟩
abbrev main_v206 : Ref sig .tc := ⟨.hbm, 279, rfl⟩
abbrev main_v207 : Ref sig .tc := ⟨.hbm, 280, rfl⟩
abbrev main_v208 : Ref sig .tc := ⟨.hbm, 281, rfl⟩
abbrev main_cst_49 : Ref sig .tc := ⟨.hbm, 282, rfl⟩
abbrev main_v209 : Ref sig .tc := ⟨.hbm, 283, rfl⟩
abbrev main_v210 : Ref sig .tc := ⟨.hbm, 284, rfl⟩
abbrev main_v211 : Ref sig .tc := ⟨.hbm, 285, rfl⟩

abbrev nD : Nat := 1
abbrev τ : Topo := Topo.v7x

variable {F : FTy → Type} [FloatOps F]
-- ==== Proof.Body0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

/-! # One run of the body that accumulates the gradient of the input

The body adds the product of two weight tables to its output block; the first of the 64 runs over one
block starts from zeros. -/

@[expose] public section

set_option maxRecDepth 16384

noncomputable section

namespace Cert.KernelIdeal.Launched

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Three zero offsets. -/
theorem hz3 : (![0, 0, 0] : Fin 3 → Nat) = fun _ => 0 := by
  funext j; fin_cases j <;> rfl

/-- Two zero offsets. -/
theorem hz2 : (![0, 0] : Fin 2 → Nat) = fun _ => 0 := by
  funext j; fin_cases j <;> rfl

/-- A store over a whole buffer, made last, is what the buffer then reads. -/
theorem read_last_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon, View.canon_cons_unit_zero h]
  subst h
  intro y
  exact ⟨_, List.mem_cons_self, by
    show y ∈ (Rect.whole S).set
    rw [Rect.set_whole]; exact Finset.mem_univ y⟩

/-- The table of weights over the (z, y) positions of the chunk, for the 512 points of the block. -/
def tabA (i : grid0.Coords) (x0 : Vec F S1x512x3 .f32) : FVec F S512x1024 .bf16 :=
  k0_pay28 (k0_pay21 (k0_pay10 x0) (k0_pay13 x0) (k0_pay18 (k0_pay15 i))
    (k0_pay19 (k0_pay11 x0) (k0_pay14 x0) (k0_pay15 i) 64#32 (k0_pay16 i) (k0_pay17 i)
      (Scalar.extui (Scalar.cmpi .sgt 64#32 0#32)) (Scalar.cmpi .slt 64#32 0#32))
    (k0_pay20 (k0_pay13 x0) (k0_pay15 i)) (Scalar.ofBits .f32 0x3F800000#32))

/-- The table over the (x, channel) positions: the weight along x times the incoming gradient. -/
def tabB (x0 : Vec F S1x512x3 .f32) (x1 : Vec F S1x512x32 .f32) : FVec F S512x2048 .bf16 :=
  k0_pay29 (k0_pay9 x0) (k0_pay12 x0) k0_pay22 (k0_pay23 (k0_pay12 x0)) (k0_pay24 (k0_pay9 x0)) (k0_pay25 (F := F)) x1

/-- What one run leaves in the output block that held `acc`. -/
def step0 (i : grid0.Coords) (x0 : Vec F S1x512x3 .f32) (x1 : Vec F S1x512x32 .f32)
    (acc : Vec F S1x1024x2048 .f32) : Vec F S1x1024x2048 .f32 :=
  k0_pay1 (k0_pay27 acc) (tabA i x0) (tabB x0 x1)

/-- The condition of the body: the innermost coordinate is zero. -/
abbrev first0 (i : grid0.Coords) : Prop :=
  (Scalar.cmpi .ne (Scalar.extui (Scalar.cmpi .eq (BitVec.ofNat 32 (i 2).val) 0#32)) 0#32) = 1#1

/-- The condition holds at the points whose number is a multiple of 64. -/
theorem first0_iff (t : Fin cfg0.N) : first0 (grid0.coords t) ↔ t.val % 64 = 0 :=
  (fun t => by
    have ht : t.val < 1024 := Nat.lt_of_lt_of_eq t.isLt N_0
    have e2 : (grid0.coords t 2).val = t.val / 1 % 64 := Pipeline.Grid.coords_val t 2 (by decide) rfl
    simp only [first0, e2]
    word_cmp
   : ∀ t : Fin grid0.N, first0 (grid0.coords t) ↔ t.val % 64 = 0) t

variable (c : Dev nD) (i : grid0.Coords)
  (arg3 : Memref sig .tc .vmem S1x512x3 .f32) (harg3 : arg3.IsWhole)
  (arg4 : Memref sig .tc .vmem S1x512x32 .f32) (harg4 : arg4.IsWhole)
  (arg5 : Memref sig .tc .vmem S1x1024x2048 .f32) (harg5 : arg5.IsWhole)
  (x0 : Vec F S1x512x3 .f32) (x1 : Vec F S1x512x32 .f32)

set_option maxHeartbeats 4000000 in
/-- A first run: whatever the output block held, it ends with one step over zeros. -/
theorem body0_first (hc0 : first0 i) (E : Set ℕ) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1
            ∗ owns (c : Thread nD τ) arg5 fullShare (step0 i x0 x1 (k0_pay26 (F := F)))) -∗ K ⟨⟩))
      ⊢ wp frame (wpE (defs₀ (F := F)) Variants.none c none) E (cc0__grad_input_kernel i arg3 harg3 arg4 harg4 arg5 harg5) K := by
  simp only [cc0__grad_input_kernel_eq_skeleton]; unfold cc0__grad_input_kernel_skel
  simp only [k0_part1_eq_skeleton, k0_part2_eq_skeleton, k0_part3_eq_skeleton, k0_part4_eq_skeleton]
  unfold owns
  iintro ⟨⟨%f0, %hf0, H0⟩, ⟨%f1, %hf1, H1⟩, ⟨%d2, %f2, -, H2⟩, Hk⟩
  obtain rfl := harg3.eq_unread hf0; obtain rfl := harg4.eq_unread hf1
  sl_exec (disch := first | sl_exact hc0)
  sl_step
  iapply Hk
  isplitl [H0]
  · iexists _; isplitr; · ipureintro; exact harg3.read_unread _
    iexact H0
  isplitl [H1]
  · iexists _; isplitr; · ipureintro; exact harg4.read_unread _
    iexact H1
  iexists _
  isplitr
  swap; · iexact H2
  ipureintro
  sl_unfold_words
  rw [read_last_whole (S := S1x1024x2048) _ _ hz3, View.readCov_unit_zero (S := S1x1024x2048) _ hz3]
  simp only [View.readAt_eq_ld, harg3.read_unread, harg4.read_unread, View.ld_unit_zero (S := S1x512x3) hz3,
    View.ld_unit_zero (S := S1x512x32) hz3]
  rfl

set_option maxHeartbeats 4000000 in
/-- A later run: the output block ends with one step over what it held. -/
theorem body0_later (hc0 : ¬ first0 i) (acc : Vec F S1x1024x2048 .f32) (E : Set ℕ) (K : PUnit → sProp 𝕄) :
    iprop(owns (c : Thread nD τ) arg3 fullShare x0 ∗ owns (c : Thread nD τ) arg4 fullShare x1 ∗ owns (c : Thread nD τ) arg5 fullShare acc
        ∗ (iprop(owns (c : Thread nD τ) arg3 fullShare x0 ∗ owns (c : Thread nD τ) arg4 fullShare x1
            ∗ owns (c : Thread nD τ) arg5 fullShare (step0 i x0 x1 acc)) -∗ K ⟨⟩))
      ⊢ wp frame (wpE (defs₀ (F := F)) Variants.none c none) E (cc0__grad_input_kernel i arg3 harg3 arg4 harg4 arg5 harg5) K := by
  simp only [cc0__grad_input_kernel_eq_skeleton]; unfold cc0__grad_input_kernel_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, Hk⟩
  obtain rfl := harg3.eq_unread hf0; obtain rfl := harg4.eq_unread hf1; obtain rfl := harg5.eq_unread hf2
  sl_exec (disch := first | sl_exact hc0)
  sl_step
  iapply Hk
  isplitl [H0]
  · iexists _; isplitr; · ipureintro; exact harg3.read_unread _
    iexact H0
  isplitl [H1]
  · iexists _; isplitr; · ipureintro; exact harg4.read_unread _
    iexact H1
  iexists _
  isplitr
  swap; · iexact H2
  ipureintro
  sl_unfold_words
  rw [read_last_whole (S := S1x1024x2048) _ _ hz3]
  simp only [View.readAt_eq_ld, harg3.read_unread, harg4.read_unread, harg5.read_unread, View.ld_unit_zero (S := S1x512x3) hz3,
    View.ld_unit_zero (S := S1x512x32) hz3, View.ld_unit_zero (S := S1x1024x2048) hz3]
  rfl

end Cert.KernelIdeal.Launched

end
-- ==== Proof.Region0.lean ====
module

public import proofs.«01_k».proof.Proof.Body0

/-! # The first call's pipeline: proof data and the body at every point -/

@[expose] public section

set_option maxRecDepth 16384

noncomputable section

namespace Cert.KernelIdeal.Launched

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → Valuation τ sig (Elt F))

/-- Window `w`'s block at point `t`, of an array at its contents on entry. -/
def blk0 (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- What the output block holds after point `n`. -/
def accs0 (c : Dev nD) : (n : ℕ) → n < cfg0.N → Vec F S1x1024x2048 .f32
  | 0, hn => step0 (grid0.coords ⟨0, hn⟩) (blk0 V c 0 ⟨0, hn⟩) (blk0 V c 1 ⟨0, hn⟩) (k0_pay26 (F := F))
  | n + 1, hn => step0 (grid0.coords ⟨n + 1, hn⟩) (blk0 V c 0 ⟨n + 1, hn⟩) (blk0 V c 1 ⟨n + 1, hn⟩)
      (if (n + 1) % 64 = 0 then k0_pay26 (F := F) else accs0 c n (Nat.lt_of_succ_lt hn))

/-- At a point whose number is a multiple of 64 the block restarts from zeros, -/
theorem accs0_first (c : Dev nD) (t : Fin cfg0.N) (h0 : t.val % 64 = 0) :
    accs0 V c t.val t.isLt = step0 (grid0.coords t) (blk0 V c 0 t) (blk0 V c 1 t) (k0_pay26 (F := F)) := by
  obtain ⟨n, hn⟩ := t
  cases n with
  | zero => rfl
  | succ n => simp only [accs0]; rw [if_pos h0]

/-- and at any other it goes on from the point before. -/
theorem accs0_later (c : Dev nD) (t : Fin cfg0.N) (h0 : ¬ t.val % 64 = 0) :
    accs0 V c t.val t.isLt = step0 (grid0.coords t) (blk0 V c 0 t) (blk0 V c 1 t)
      (accs0 V c (t.val - 1) (Nat.lt_of_le_of_lt (Nat.sub_le _ _) t.isLt)) := by
  obtain ⟨n, hn⟩ := t
  cases n with
  | zero => exact absurd (Nat.zero_mod _) h0
  | succ n => simp only [accs0]; rw [if_neg h0]; rfl

/-- The pipeline's proof data: the inputs' blocks stay, the output's follow `accs0`, nothing is owed. -/
def dat0 (c : Dev nD) : Dat τ (Elt F) Unit ℕ (UR sig nD τ) ℕ cfg0 c where
  A w := V c (Proc.devRef .tc (Pipeline.arrRef spec0 w))
  after w t := match w with
    | ⟨0, _⟩ => blk0 V c 0 t
    | ⟨1, _⟩ => blk0 V c 1 t
    | ⟨2, _⟩ => accs0 V c t.val t.isLt
  Φ _ := Pipeline.ΦA spec0 c
  q _ := fullShare
  owed _ := 0

/-- The arrays of the first call are those it starts with. -/
theorem dat0_A (c : Dev nD) (w : Fin cfg0.W) : (dat0 V c).A w = V c (Proc.devRef .tc (Pipeline.arrRef spec0 w)) := by
  dsimp only [dat0]

/-- The window of the grid keeps its block. -/
theorem dat0_after0 (c : Dev nD) (t : Fin cfg0.N) : (dat0 V c).after 0 t = blk0 V c 0 t := by dsimp only [dat0]
/-- The window of the incoming gradient keeps its block. -/
theorem dat0_after1 (c : Dev nD) (t : Fin cfg0.N) : (dat0 V c).after 1 t = blk0 V c 1 t := by dsimp only [dat0]
/-- The window of the result holds the running sum after step `t`. -/
theorem dat0_after2 (c : Dev nD) (t : Fin cfg0.N) : (dat0 V c).after 2 t = accs0 V c t.val t.isLt := by dsimp only [dat0]

/-- An input's staging buffer holds its block at every point. -/
theorem dat0_before0 (c : Dev nD) (t : Fin cfg0.N) (d) : (dat0 V c).before 0 t d = blk0 V c 0 t :=
  ((dat0 V c).before_in_eq_fetched 0 rfl (fun _ => rfl) (fun _ _ _ => rfl)
    (fun t => by rw [dat0_after0]; unfold Dat.blockOf blk0; rw [dat0_A]; try rfl) t d).trans
    (by unfold Dat.fetched Dat.blockOf blk0; rw [dat0_A]; try rfl)
/-- Before step `t` the window of the incoming gradient holds its block. -/
theorem dat0_before1 (c : Dev nD) (t : Fin cfg0.N) (d) : (dat0 V c).before 1 t d = blk0 V c 1 t :=
  ((dat0 V c).before_in_eq_fetched 1 rfl (fun _ => rfl) (fun _ _ _ => rfl)
    (fun t => by rw [dat0_after1]; unfold Dat.blockOf blk0; rw [dat0_A]; try rfl) t d).trans
    (by unfold Dat.fetched Dat.blockOf blk0; rw [dat0_A]; try rfl)

/-- Between two write-backs the output's buffer holds what the point before left. -/
theorem dat0_before2 (c : Dev nD) (t : Fin cfg0.N) (h0 : ¬ t.val % 64 = 0) (d) :
    (dat0 V c).before 2 t d = accs0 V c (t.val - 1) (Nat.lt_of_le_of_lt (Nat.sub_le _ _) t.isLt) := by
  have hN : t.val < 1024 := lt_of_lt_of_eq t.isLt (show cfg0.N = 1024 from N_0)
  rw [Dat.before_out_kept _ 2 rfl t (by omega)
    (Bool.eq_false_iff.mpr fun h => by have := (flush0_2 _).mp h; dsimp only at this; omega) (fun _ => rfl) (fun _ _ => rfl)]
  dsimp only [dat0]

/-- What the body is called with at point `t`, and what it returns. -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 1600000 in
/-- The body at any point. -/
theorem sound0 (c : Dev nD) (t : Fin cfg0.N) :
    pre0 V c t ⊢ wp frame (wpE (defs₀ (F := F)) Variants.none c none) Set.univ (bodyAt0 t) (fun _ => post0 V c t) := by
  unfold pre0 post0 bodyAt0
  simp only [dat0_before0, dat0_before1]
  rw [show (dat0 V c).Φ t.succ = (dat0 V c).Φ t.castSucc from rfl,
    show (dat0 V c).owesAt () t.succ = (dat0 V c).owesAt () t.castSucc from rfl, dat0_after0, dat0_after1, dat0_after2]
  by_cases h0 : t.val % 64 = 0
  · rw [accs0_first V c t h0]
    iintro ⟨HΦ, Ho, ⟨%d0, H0⟩, ⟨%d1, H1⟩, ⟨%d2, H2⟩⟩
    iapply (body0_first c (grid0.coords t) _ _ _ _ _ _ (blk0 V c 0 t) (blk0 V c 1 t) ((first0_iff t).mpr h0) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [accs0_later V c t h0]
    simp only [dat0_before2 V c t h0]
    iintro ⟨HΦ, Ho, ⟨%d0, H0⟩, ⟨%d1, H1⟩, ⟨%d2, H2⟩⟩
    iapply (body0_later c (grid0.coords t) _ _ _ _ _ _ (blk0 V c 0 t) (blk0 V c 1 t) (fun h => h0 ((first0_iff t).mp h)) _ Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The body's obligation at every point, as the pipeline's theorems take it. -/
theorem body0_ok (c : Dev nD) : BodyObligation (dat0 (F := F) V c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (sound0 V c t) rfl .rfl fun _ => .rfl

end Cert.KernelIdeal.Launched

end
-- ==== Proof.Body1.lean ====
module

public import proofs.«01_k».proof.Proof.Body0

/-! # One run of the body that computes the gradient of the grid

The body adds three products to three carried accumulators (from zeros in the first of the four runs
over one block of points); the last of the four reduces them to the three components. -/

@[expose] public section

set_option maxRecDepth 16384

noncomputable section

namespace Cert.KernelIdeal.Launched

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The weights along z and y, and their derivatives, over the (z, y) positions of the chunk. -/
def wz1 (i : grid1.Coords) (x0 : Vec F S1x512x3 .f32) : FVec F S512x1024 .f32 :=
  k1_pay37 (k1_pay28 x0) (k1_pay31 x0) (k1_pay32 i) 64#32 (k1_pay33 i) (k1_pay34 i)
    (Scalar.extui (Scalar.cmpi .sgt 64#32 0#32)) (Scalar.cmpi .slt 64#32 0#32)
def wy1 (i : grid1.Coords) (x0 : Vec F S1x512x3 .f32) : FVec F S512x1024 .f32 :=
  k1_pay39 (k1_pay27 x0) (k1_pay30 x0) (k1_pay36 (k1_pay32 i)) (k1_pay38 (k1_pay30 x0) (k1_pay32 i)) (Scalar.ofBits .f32 0x3F800000#32)
def dz1 (i : grid1.Coords) (x0 : Vec F S1x512x3 .f32) : FVec F S512x1024 .f32 :=
  k1_pay40 (F := F) (k1_pay31 x0) (k1_pay35 (k1_pay32 i) 64#32 (k1_pay33 i) (k1_pay34 i)
    (Scalar.extui (Scalar.cmpi .sgt 64#32 0#32)) (Scalar.cmpi .slt 64#32 0#32))
def dy1 (i : grid1.Coords) (x0 : Vec F S1x512x3 .f32) : FVec F S512x1024 .f32 :=
  k1_pay41 (F := F) (k1_pay30 x0) (k1_pay36 (k1_pay32 i))

/-- What one run leaves in each accumulator that held `u`. -/
def acc0 (i : grid1.Coords) (x0 : Vec F S1x512x3 .f32) (x2 : Vec F S1x1024x2048 .bf16) (u : Vec F S512x2048 .f32) : Vec F S512x2048 .f32 :=
  k1_pay5 (wz1 i x0) (wy1 i x0) (dz1 i x0) (dy1 i x0) (k1_pay42 x2) u
def acc1 (i : grid1.Coords) (x0 : Vec F S1x512x3 .f32) (x2 : Vec F S1x1024x2048 .bf16) (u : Vec F S512x2048 .f32) : Vec F S512x2048 .f32 :=
  k1_pay6 (wz1 i x0) (wy1 i x0) (dz1 i x0) (dy1 i x0) (k1_pay42 x2) u
def acc2 (i : grid1.Coords) (x0 : Vec F S1x512x3 .f32) (x2 : Vec F S1x1024x2048 .bf16) (u : Vec F S512x2048 .f32) : Vec F S512x2048 .f32 :=
  k1_pay7 (wz1 i x0) (wy1 i x0) (dz1 i x0) (dy1 i x0) (k1_pay42 x2) u

/-- The weight along x times the incoming gradient, over the (x, channel) positions. -/
def kx1 (x0 : Vec F S1x512x3 .f32) (x1 : Vec F S1x512x32 .f32) : FVec F S512x2048 .f32 :=
  k1_pay14 (k1_pay26 x0) (k1_pay29 x0) (k1_pay9 x1) k1_pay10 k1_pay11 k1_pay12 k1_pay13

/-- The three components the last run stores, from the accumulators. -/
def outX (x0 : Vec F S1x512x3 .f32) (x1 : Vec F S1x512x32 .f32) (u : Vec F S512x2048 .f32) : Vec F S1x512x1 .f32 :=
  k1_pay16 (k1_pay29 x0) (k1_pay9 x1) (k1_pay15 (iota .tc S512x2048 32 [1] iota_S512x2048_d1_w32)) 1#32 u
def outY (x0 : Vec F S1x512x3 .f32) (x1 : Vec F S1x512x32 .f32) (u : Vec F S512x2048 .f32) : Vec F S1x512x1 .f32 :=
  k1_pay17 (kx1 x0 x1) u
def outZ (x0 : Vec F S1x512x3 .f32) (x1 : Vec F S1x512x32 .f32) (u : Vec F S512x2048 .f32) : Vec F S1x512x1 .f32 :=
  k1_pay8 (k1_pay18 (kx1 x0 x1) u) (Scalar.ofBits .f32 0x41FC0000#32)

/-- The two conditions of the body: the innermost coordinate is zero; it is three. -/
abbrev first1 (i : grid1.Coords) : Prop :=
  (Scalar.cmpi .ne (Scalar.extui (Scalar.cmpi .eq (BitVec.ofNat 32 (i 2).val) 0#32)) 0#32) = 1#1
abbrev last1 (i : grid1.Coords) : Prop := k1_cond2 i = 1#1

/-- The first step of a block of points is that of chunk 0. -/
theorem first1_iff (t : Fin cfg1.N) : first1 (grid1.coords t) ↔ t.val % 4 = 0 :=
  (fun t => by
    have ht : t.val < 1024 := Nat.lt_of_lt_of_eq t.isLt N_1
    have e2 : (grid1.coords t 2).val = t.val / 1 % 4 := Pipeline.Grid.coords_val t 2 (by decide) rfl
    simp only [first1, e2]
    word_cmp
   : ∀ t : Fin grid1.N, first1 (grid1.coords t) ↔ t.val % 4 = 0) t

/-- The last step of a block of points is that of chunk 3. -/
theorem last1_iff (t : Fin cfg1.N) : last1 (grid1.coords t) ↔ t.val % 4 = 3 :=
  (fun t => by
    have ht : t.val < 1024 := Nat.lt_of_lt_of_eq t.isLt N_1
    have e2 : (grid1.coords t 2).val = t.val / 1 % 4 := Pipeline.Grid.coords_val t 2 (by decide) rfl
    simp only [last1, k1_cond2, e2]
    word_cmp
   : ∀ t : Fin grid1.N, last1 (grid1.coords t) ↔ t.val % 4 = 3) t

variable (c : Dev nD) (i : grid1.Coords)
  (arg3 : Memref sig .tc .vmem S1x512x3 .f32) (harg3 : arg3.IsWhole)
  (arg4 : Memref sig .tc .vmem S1x512x32 .f32) (harg4 : arg4.IsWhole)
  (arg5 : Memref sig .tc .vmem S1x1024x2048 .bf16) (harg5 : arg5.IsWhole)
  (arg6 : Memref sig .tc .vmem S1x512x1 .f32) (harg6 : arg6.IsWhole)
  (arg7 : Memref sig .tc .vmem S1x512x1 .f32) (harg7 : arg7.IsWhole)
  (arg8 : Memref sig .tc .vmem S1x512x1 .f32) (harg8 : arg8.IsWhole)
  (arg9 : Memref sig .tc .vmem S512x2048 .f32) (harg9 : arg9.IsWhole)
  (arg10 : Memref sig .tc .vmem S512x2048 .f32) (harg10 : arg10.IsWhole)
  (arg11 : Memref sig .tc .vmem S512x2048 .f32) (harg11 : arg11.IsWhole)
  (x0 : Vec F S1x512x3 .f32) (x1 : Vec F S1x512x32 .f32) (x2 : Vec F S1x1024x2048 .bf16)

/-- The six staging buffers and the three accumulators, each at given contents. -/
def held1 (o3 o4 o5 : Vec F S1x512x1 .f32) (u0 u1 u2 : Vec F S512x2048 .f32) : sProp 𝕄 :=
  iprop(owns (c : Thread nD τ) arg3 fullShare x0 ∗ owns (c : Thread nD τ) arg4 fullShare x1 ∗ owns (c : Thread nD τ) arg5 fullShare x2
    ∗ owns (c : Thread nD τ) arg6 fullShare o3 ∗ owns (c : Thread nD τ) arg7 fullShare o4 ∗ owns (c : Thread nD τ) arg8 fullShare o5
    ∗ owns (c : Thread nD τ) arg9 fullShare u0 ∗ owns (c : Thread nD τ) arg10 fullShare u1 ∗ owns (c : Thread nD τ) arg11 fullShare u2)

set_option maxHeartbeats 8000000 in
/-- The first of four runs: the accumulators restart from zeros, the outputs are left alone. -/
theorem body1_first (hc0 : first1 i) (hc1 : ¬ last1 i) (o3 o4 o5 : Vec F S1x512x1 .f32) (u0 u1 u2 : Vec F S512x2048 .f32) (E : Set ℕ) (K : PUnit → sProp 𝕄) :
    iprop(held1 c arg3 arg4 arg5 arg6 arg7 arg8 arg9 arg10 arg11 x0 x1 x2 o3 o4 o5 u0 u1 u2
        ∗ (held1 c arg3 arg4 arg5 arg6 arg7 arg8 arg9 arg10 arg11 x0 x1 x2 o3 o4 o5 (acc0 i x0 x2 (k1_pay1 (F := F))) (acc1 i x0 x2 (k1_pay2 (F := F))) (acc2 i x0 x2 (k1_pay3 (F := F))) -∗ K ⟨⟩))
      ⊢ wp frame (wpE (defs₀ (F := F)) Variants.none c none) E
          (cc1__grad_grid_kernel i arg3 harg3 arg4 harg4 arg5 harg5 arg6 harg6 arg7 harg7 arg8 harg8 arg9 harg9 arg10 harg10 arg11 harg11) K := by
  simp only [cc1__grad_grid_kernel_eq_skeleton]; unfold cc1__grad_grid_kernel_skel
  simp only [k1_part1_eq_skeleton, k1_part2_eq_skeleton, k1_part3_eq_skeleton, k1_part4_eq_skeleton, k1_part5_eq_skeleton,
    k1_part6_eq_skeleton]
  unfold held1 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg9.eq_unread hf6; obtain rfl := harg10.eq_unread hf7; obtain rfl := harg11.eq_unread hf8
  sl_exec (disch := first | sl_exact hc0 | sl_exact hc1)
  sl_step
  iapply Hk
  isplitl [H0]
  · iexists _; isplitr
    swap; · iexact H0
    ipureintro; exact harg3.read_unread _
  isplitl [H1]
  · iexists _; isplitr
    swap; · iexact H1
    ipureintro; exact harg4.read_unread _
  isplitl [H2]
  · iexists _; isplitr
    swap; · iexact H2
    ipureintro; exact harg5.read_unread _
  isplitl [H3]
  · iexists _; isplitr
    swap; · iexact H3
    ipureintro; exact harg6.read_unread _
  isplitl [H4]
  · iexists _; isplitr
    swap; · iexact H4
    ipureintro; exact harg7.read_unread _
  isplitl [H5]
  · iexists _; isplitr
    swap; · iexact H5
    ipureintro; exact harg8.read_unread _
  isplitl [H6]
  · iexists _; isplitr
    swap; · iexact H6
    ipureintro
    sl_unfold_words
    rw [read_last_whole (S := S512x2048) _ _ hz2]; rw [View.readCov_unit_zero (S := S512x2048) _ hz2]
    simp only [View.readAt_eq_ld, harg3.read_unread, harg4.read_unread, harg5.read_unread, harg9.read_unread, harg10.read_unread, harg11.read_unread, View.ld_unit_zero (S := S1x512x3) hz3, View.ld_unit_zero (S := S1x512x32) hz3, View.ld_unit_zero (S := S1x1024x2048) hz3, View.ld_unit_zero (S := S512x2048) hz2]
    rfl
  isplitl [H7]
  · iexists _; isplitr
    swap; · iexact H7
    ipureintro
    sl_unfold_words
    rw [read_last_whole (S := S512x2048) _ _ hz2]; rw [View.readCov_unit_zero (S := S512x2048) _ hz2]
    simp only [View.readAt_eq_ld, harg3.read_unread, harg4.read_unread, harg5.read_unread, harg9.read_unread, harg10.read_unread, harg11.read_unread, View.ld_unit_zero (S := S1x512x3) hz3, View.ld_unit_zero (S := S1x512x32) hz3, View.ld_unit_zero (S := S1x1024x2048) hz3, View.ld_unit_zero (S := S512x2048) hz2]
    rfl
  iexists _; isplitr
  swap; · iexact H8
  ipureintro
  sl_unfold_words
  rw [read_last_whole (S := S512x2048) _ _ hz2]; rw [View.readCov_unit_zero (S := S512x2048) _ hz2]
  simp only [View.readAt_eq_ld, harg3.read_unread, harg4.read_unread, harg5.read_unread, harg9.read_unread, harg10.read_unread, harg11.read_unread, View.ld_unit_zero (S := S1x512x3) hz3, View.ld_unit_zero (S := S1x512x32) hz3, View.ld_unit_zero (S := S1x1024x2048) hz3, View.ld_unit_zero (S := S512x2048) hz2]
  rfl

set_option maxHeartbeats 8000000 in
/-- A middle run: the accumulators advance, the outputs are left alone. -/
theorem body1_middle (hc0 : ¬ first1 i) (hc1 : ¬ last1 i) (o3 o4 o5 : Vec F S1x512x1 .f32) (u0 u1 u2 : Vec F S512x2048 .f32) (E : Set ℕ) (K : PUnit → sProp 𝕄) :
    iprop(held1 c arg3 arg4 arg5 arg6 arg7 arg8 arg9 arg10 arg11 x0 x1 x2 o3 o4 o5 u0 u1 u2
        ∗ (held1 c arg3 arg4 arg5 arg6 arg7 arg8 arg9 arg10 arg11 x0 x1 x2 o3 o4 o5 (acc0 i x0 x2 u0) (acc1 i x0 x2 u1) (acc2 i x0 x2 u2) -∗ K ⟨⟩))
      ⊢ wp frame (wpE (defs₀ (F := F)) Variants.none c none) E
          (cc1__grad_grid_kernel i arg3 harg3 arg4 harg4 arg5 harg5 arg6 harg6 arg7 harg7 arg8 harg8 arg9 harg9 arg10 harg10 arg11 harg11) K := by
  simp only [cc1__grad_grid_kernel_eq_skeleton]; unfold cc1__grad_grid_kernel_skel
  simp only [k1_part1_eq_skeleton, k1_part2_eq_skeleton, k1_part3_eq_skeleton, k1_part4_eq_skeleton, k1_part5_eq_skeleton,
    k1_part6_eq_skeleton]
  unfold held1 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg9.eq_unread hf6; obtain rfl := harg10.eq_unread hf7; obtain rfl := harg11.eq_unread hf8
  sl_exec (disch := first | sl_exact hc0 | sl_exact hc1)
  sl_step
  iapply Hk
  isplitl [H0]
  · iexists _; isplitr
    swap; · iexact H0
    ipureintro; exact harg3.read_unread _
  isplitl [H1]
  · iexists _; isplitr
    swap; · iexact H1
    ipureintro; exact harg4.read_unread _
  isplitl [H2]
  · iexists _; isplitr
    swap; · iexact H2
    ipureintro; exact harg5.read_unread _
  isplitl [H3]
  · iexists _; isplitr
    swap; · iexact H3
    ipureintro; exact harg6.read_unread _
  isplitl [H4]
  · iexists _; isplitr
    swap; · iexact H4
    ipureintro; exact harg7.read_unread _
  isplitl [H5]
  · iexists _; isplitr
    swap; · iexact H5
    ipureintro; exact harg8.read_unread _
  isplitl [H6]
  · iexists _; isplitr
    swap; · iexact H6
    ipureintro
    sl_unfold_words
    rw [read_last_whole (S := S512x2048) _ _ hz2]
    simp only [View.readAt_eq_ld, harg3.read_unread, harg4.read_unread, harg5.read_unread, harg9.read_unread, harg10.read_unread, harg11.read_unread, View.ld_unit_zero (S := S1x512x3) hz3, View.ld_unit_zero (S := S1x512x32) hz3, View.ld_unit_zero (S := S1x1024x2048) hz3, View.ld_unit_zero (S := S512x2048) hz2]
    rfl
  isplitl [H7]
  · iexists _; isplitr
    swap; · iexact H7
    ipureintro
    sl_unfold_words
    rw [read_last_whole (S := S512x2048) _ _ hz2]
    simp only [View.readAt_eq_ld, harg3.read_unread, harg4.read_unread, harg5.read_unread, harg9.read_unread, harg10.read_unread, harg11.read_unread, View.ld_unit_zero (S := S1x512x3) hz3, View.ld_unit_zero (S := S1x512x32) hz3, View.ld_unit_zero (S := S1x1024x2048) hz3, View.ld_unit_zero (S := S512x2048) hz2]
    rfl
  iexists _; isplitr
  swap; · iexact H8
  ipureintro
  sl_unfold_words
  rw [read_last_whole (S := S512x2048) _ _ hz2]
  simp only [View.readAt_eq_ld, harg3.read_unread, harg4.read_unread, harg5.read_unread, harg9.read_unread, harg10.read_unread, harg11.read_unread, View.ld_unit_zero (S := S1x512x3) hz3, View.ld_unit_zero (S := S1x512x32) hz3, View.ld_unit_zero (S := S1x1024x2048) hz3, View.ld_unit_zero (S := S512x2048) hz2]
  rfl

set_option maxHeartbeats 8000000 in
/-- The last run: the accumulators advance and the outputs are computed from them. -/
theorem body1_last (hc0 : ¬ first1 i) (hc1 : last1 i) (o3 o4 o5 : Vec F S1x512x1 .f32) (u0 u1 u2 : Vec F S512x2048 .f32) (E : Set ℕ) (K : PUnit → sProp 𝕄) :
    iprop(held1 c arg3 arg4 arg5 arg6 arg7 arg8 arg9 arg10 arg11 x0 x1 x2 o3 o4 o5 u0 u1 u2
        ∗ (held1 c arg3 arg4 arg5 arg6 arg7 arg8 arg9 arg10 arg11 x0 x1 x2 (outX x0 x1 (acc0 i x0 x2 u0)) (outY x0 x1 (acc1 i x0 x2 u1)) (outZ x0 x1 (acc2 i x0 x2 u2)) (acc0 i x0 x2 u0) (acc1 i x0 x2 u1) (acc2 i x0 x2 u2) -∗ K ⟨⟩))
      ⊢ wp frame (wpE (defs₀ (F := F)) Variants.none c none) E
          (cc1__grad_grid_kernel i arg3 harg3 arg4 harg4 arg5 harg5 arg6 harg6 arg7 harg7 arg8 harg8 arg9 harg9 arg10 harg10 arg11 harg11) K := by
  simp only [cc1__grad_grid_kernel_eq_skeleton]; unfold cc1__grad_grid_kernel_skel
  simp only [k1_part1_eq_skeleton, k1_part2_eq_skeleton, k1_part3_eq_skeleton, k1_part4_eq_skeleton, k1_part5_eq_skeleton,
    k1_part6_eq_skeleton]
  unfold held1 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg9.eq_unread hf6; obtain rfl := harg10.eq_unread hf7; obtain rfl := harg11.eq_unread hf8
  sl_exec (disch := first | sl_exact hc0 | sl_exact hc1)
  sl_step
  iapply Hk
  isplitl [H0]
  · iexists _; isplitr
    swap; · iexact H0
    ipureintro; exact harg3.read_unread _
  isplitl [H1]
  · iexists _; isplitr
    swap; · iexact H1
    ipureintro; exact harg4.read_unread _
  isplitl [H2]
  · iexists _; isplitr
    swap; · iexact H2
    ipureintro; exact harg5.read_unread _
  isplitl [H3]
  · iexists _; isplitr
    swap; · iexact H3
    ipureintro
    sl_unfold_words
    rw [read_last_whole (S := S1x512x1) _ _ hz3]; rw [View.readCov_unit_zero (S := S512x2048) _ hz2]
    simp only [View.readAt_eq_ld, harg3.read_unread, harg4.read_unread, harg5.read_unread, harg9.read_unread, harg10.read_unread, harg11.read_unread, View.ld_unit_zero (S := S1x512x3) hz3, View.ld_unit_zero (S := S1x512x32) hz3, View.ld_unit_zero (S := S1x1024x2048) hz3, View.ld_unit_zero (S := S512x2048) hz2]
    rfl
  isplitl [H4]
  · iexists _; isplitr
    swap; · iexact H4
    ipureintro
    sl_unfold_words
    rw [read_last_whole (S := S1x512x1) _ _ hz3]; rw [View.readCov_unit_zero (S := S512x2048) _ hz2]
    simp only [View.readAt_eq_ld, harg3.read_unread, harg4.read_unread, harg5.read_unread, harg9.read_unread, harg10.read_unread, harg11.read_unread, View.ld_unit_zero (S := S1x512x3) hz3, View.ld_unit_zero (S := S1x512x32) hz3, View.ld_unit_zero (S := S1x1024x2048) hz3, View.ld_unit_zero (S := S512x2048) hz2]
    rfl
  isplitl [H5]
  · iexists _; isplitr
    swap; · iexact H5
    ipureintro
    sl_unfold_words
    rw [read_last_whole (S := S1x512x1) _ _ hz3]; rw [View.readCov_unit_zero (S := S512x2048) _ hz2]
    simp only [View.readAt_eq_ld, harg3.read_unread, harg4.read_unread, harg5.read_unread, harg9.read_unread, harg10.read_unread, harg11.read_unread, View.ld_unit_zero (S := S1x512x3) hz3, View.ld_unit_zero (S := S1x512x32) hz3, View.ld_unit_zero (S := S1x1024x2048) hz3, View.ld_unit_zero (S := S512x2048) hz2]
    rfl
  isplitl [H6]
  · iexists _; isplitr
    swap; · iexact H6
    ipureintro
    sl_unfold_words
    rw [read_last_whole (S := S512x2048) _ _ hz2]
    simp only [View.readAt_eq_ld, harg3.read_unread, harg4.read_unread, harg5.read_unread, harg9.read_unread, harg10.read_unread, harg11.read_unread, View.ld_unit_zero (S := S1x512x3) hz3, View.ld_unit_zero (S := S1x512x32) hz3, View.ld_unit_zero (S := S1x1024x2048) hz3, View.ld_unit_zero (S := S512x2048) hz2]
    rfl
  isplitl [H7]
  · iexists _; isplitr
    swap; · iexact H7
    ipureintro
    sl_unfold_words
    rw [read_last_whole (S := S512x2048) _ _ hz2]
    simp only [View.readAt_eq_ld, harg3.read_unread, harg4.read_unread, harg5.read_unread, harg9.read_unread, harg10.read_unread, harg11.read_unread, View.ld_unit_zero (S := S1x512x3) hz3, View.ld_unit_zero (S := S1x512x32) hz3, View.ld_unit_zero (S := S1x1024x2048) hz3, View.ld_unit_zero (S := S512x2048) hz2]
    rfl
  iexists _; isplitr
  swap; · iexact H8
  ipureintro
  sl_unfold_words
  rw [read_last_whole (S := S512x2048) _ _ hz2]
  simp only [View.readAt_eq_ld, harg3.read_unread, harg4.read_unread, harg5.read_unread, harg9.read_unread, harg10.read_unread, harg11.read_unread, View.ld_unit_zero (S := S1x512x3) hz3, View.ld_unit_zero (S := S1x512x32) hz3, View.ld_unit_zero (S := S1x1024x2048) hz3, View.ld_unit_zero (S := S512x2048) hz2]
  rfl

end Cert.KernelIdeal.Launched

end
-- ==== Proof.Region1.lean ====
module

public import proofs.«01_k».proof.Proof.Body1

/-! # The second call's pipeline: proof data and the body at every point -/

@[expose] public section

set_option maxRecDepth 16384

noncomputable section

namespace Cert.KernelIdeal.Launched

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → Valuation τ sig (Elt F))

/-- Window `w`'s block at point `t`, of an array at its contents on entry. -/
def blk1 (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The contents of the three accumulators. -/
structure Accs (F : FTy → Type) [FloatOps F] where
  u0 : Vec F S512x2048 .f32
  u1 : Vec F S512x2048 .f32
  u2 : Vec F S512x2048 .f32

/-- The accumulators at zero. -/
def Accs.zero : Accs F := ⟨k1_pay1 (F := F), k1_pay2 (F := F), k1_pay3 (F := F)⟩

/-- The accumulators after one more run of the body. -/
def Accs.next (i : grid1.Coords) (x0 : Vec F S1x512x3 .f32) (x2 : Vec F S1x1024x2048 .bf16) (a : Accs F) : Accs F :=
  ⟨acc0 i x0 x2 a.u0, acc1 i x0 x2 a.u1, acc2 i x0 x2 a.u2⟩

/-- What the accumulators hold after point `n`. -/
def accs1 (c : Dev nD) : (n : ℕ) → n < cfg1.N → Accs F
  | 0, hn => Accs.zero.next (grid1.coords ⟨0, hn⟩) (blk1 V c 0 ⟨0, hn⟩) (blk1 V c 2 ⟨0, hn⟩)
  | n + 1, hn => (if (n + 1) % 4 = 0 then Accs.zero else accs1 c n (Nat.lt_of_succ_lt hn)).next
      (grid1.coords ⟨n + 1, hn⟩) (blk1 V c 0 ⟨n + 1, hn⟩) (blk1 V c 2 ⟨n + 1, hn⟩)

/-- At a point whose number is a multiple of 4 they restart from zeros, -/
theorem accs1_first (c : Dev nD) (t : Fin cfg1.N) (h0 : t.val % 4 = 0) :
    accs1 V c t.val t.isLt = Accs.zero.next (grid1.coords t) (blk1 V c 0 t) (blk1 V c 2 t) := by
  obtain ⟨n, hn⟩ := t
  cases n with
  | zero => rfl
  | succ n => simp only [accs1]; rw [if_pos h0]

/-- and at any other they go on from the point before. -/
theorem accs1_later (c : Dev nD) (t : Fin cfg1.N) (h0 : ¬ t.val % 4 = 0) :
    accs1 V c t.val t.isLt = (accs1 V c (t.val - 1) (Nat.lt_of_le_of_lt (Nat.sub_le _ _) t.isLt)).next
      (grid1.coords t) (blk1 V c 0 t) (blk1 V c 2 t) := by
  obtain ⟨n, hn⟩ := t
  cases n with
  | zero => exact absurd (Nat.zero_mod _) h0
  | succ n => simp only [accs1]; rw [if_neg h0]; rfl

/-- The step before a position is a step. -/
theorem pred_lt (t : Fin (cfg1.N + 1)) : t.val - 1 < cfg1.N := by
  have := t.isLt; have : cfg1.N = 1024 := N_1; omega

/-- The accumulators as memory references. -/
abbrev sc0 : Memref sig .tc .vmem S512x2048 .f32 := Memref.whole cc1_scratch0
abbrev sc1 : Memref sig .tc .vmem S512x2048 .f32 := Memref.whole cc1_scratch1
abbrev sc2 : Memref sig .tc .vmem S512x2048 .f32 := Memref.whole cc1_scratch2

/-- The first call's staging buffers, at any contents. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The invariant between points: the accumulators, at what the point before left unless the next restarts them. -/
def inv1 (c : Dev nD) (t : Fin (cfg1.N + 1)) : sProp 𝕄 :=
  iprop(rest1 (F := F) c ∗ (∃ a : Accs F, ⌜¬ t.val % 4 = 0 → a = accs1 V c (t.val - 1) (pred_lt t)⌝
    ∗ owns (c : Thread nD τ) sc0 fullShare a.u0 ∗ owns (c : Thread nD τ) sc1 fullShare a.u1 ∗ owns (c : Thread nD τ) sc2 fullShare a.u2)
    ∗ (∃ r, prngReg c r))

/-- The pipeline's proof data: the inputs' blocks stay, the outputs' are computed from the accumulators, nothing is owed. -/
def dat1 (c : Dev nD) : Dat τ (Elt F) Unit ℕ (UR sig nD τ) ℕ cfg1 c where
  A w := V c (Proc.devRef .tc (Pipeline.arrRef spec1 w))
  after w t := match w with
    | ⟨0, _⟩ => blk1 V c 0 t
    | ⟨1, _⟩ => blk1 V c 1 t
    | ⟨2, _⟩ => blk1 V c 2 t
    | ⟨3, _⟩ => outX (blk1 V c 0 t) (blk1 V c 1 t) (accs1 V c t.val t.isLt).u0
    | ⟨4, _⟩ => outY (blk1 V c 0 t) (blk1 V c 1 t) (accs1 V c t.val t.isLt).u1
    | ⟨5, _⟩ => outZ (blk1 V c 0 t) (blk1 V c 1 t) (accs1 V c t.val t.isLt).u2
  Φ t := inv1 V c t
  q _ := fullShare
  owed _ := 0

/-- The arrays of the second call are those it starts with. -/
theorem dat1_A (c : Dev nD) (w : Fin cfg1.W) : (dat1 V c).A w = V c (Proc.devRef .tc (Pipeline.arrRef spec1 w)) := by
  dsimp only [dat1]

/-- The window of the grid keeps its block. -/
theorem dat1_after0 (c : Dev nD) (t : Fin cfg1.N) : (dat1 V c).after 0 t = blk1 V c 0 t := by dsimp only [dat1]
/-- The window of the incoming gradient keeps its block. -/
theorem dat1_after1 (c : Dev nD) (t : Fin cfg1.N) : (dat1 V c).after 1 t = blk1 V c 1 t := by dsimp only [dat1]
/-- The window of the input keeps its block. -/
theorem dat1_after2 (c : Dev nD) (t : Fin cfg1.N) : (dat1 V c).after 2 t = blk1 V c 2 t := by dsimp only [dat1]
/-- The `x` window holds the result of the first accumulator. -/
theorem dat1_after3 (c : Dev nD) (t : Fin cfg1.N) :
    (dat1 V c).after 3 t = outX (blk1 V c 0 t) (blk1 V c 1 t) (accs1 V c t.val t.isLt).u0 := by dsimp only [dat1]
/-- The `y` window holds the result of the second accumulator. -/
theorem dat1_after4 (c : Dev nD) (t : Fin cfg1.N) :
    (dat1 V c).after 4 t = outY (blk1 V c 0 t) (blk1 V c 1 t) (accs1 V c t.val t.isLt).u1 := by dsimp only [dat1]
/-- The `z` window holds the result of the third accumulator. -/
theorem dat1_after5 (c : Dev nD) (t : Fin cfg1.N) :
    (dat1 V c).after 5 t = outZ (blk1 V c 0 t) (blk1 V c 1 t) (accs1 V c t.val t.isLt).u2 := by dsimp only [dat1]

/-- An input's staging buffer holds its block at every point. -/
theorem dat1_before0 (c : Dev nD) (t : Fin cfg1.N) (d) : (dat1 V c).before 0 t d = blk1 V c 0 t :=
  ((dat1 V c).before_in_eq_fetched 0 rfl (fun _ => rfl) (fun _ _ _ => rfl)
    (fun t => by rw [dat1_after0]; unfold Dat.blockOf blk1; rw [dat1_A]; try rfl) t d).trans
    (by unfold Dat.fetched Dat.blockOf blk1; rw [dat1_A]; try rfl)
/-- Before step `t` the window of the incoming gradient holds its block. -/
theorem dat1_before1 (c : Dev nD) (t : Fin cfg1.N) (d) : (dat1 V c).before 1 t d = blk1 V c 1 t :=
  ((dat1 V c).before_in_eq_fetched 1 rfl (fun _ => rfl) (fun _ _ _ => rfl)
    (fun t => by rw [dat1_after1]; unfold Dat.blockOf blk1; rw [dat1_A]; try rfl) t d).trans
    (by unfold Dat.fetched Dat.blockOf blk1; rw [dat1_A]; try rfl)
/-- Before step `t` the window of the input holds its block. -/
theorem dat1_before2 (c : Dev nD) (t : Fin cfg1.N) (d) : (dat1 V c).before 2 t d = blk1 V c 2 t :=
  ((dat1 V c).before_in_eq_fetched 2 rfl (fun _ => rfl) (fun _ _ _ => rfl)
    (fun t => by rw [dat1_after2]; unfold Dat.blockOf blk1; rw [dat1_A]; try rfl) t d).trans
    (by unfold Dat.fetched Dat.blockOf blk1; rw [dat1_A]; try rfl)

/-- The outputs are left alone and not written back, except at the last of four points. -/
theorem idle1 : ∀ t : Fin cfg1.N, ¬ last1 (grid1.coords t) →
    (cfg1.idle 3 (grid1.coords t) = true ∧ (cfg1.win 3).flush t = false) ∧
    (cfg1.idle 4 (grid1.coords t) = true ∧ (cfg1.win 4).flush t = false) ∧
    (cfg1.idle 5 (grid1.coords t) = true ∧ (cfg1.win 5).flush t = false) := by decide +kernel
/-- At the last of four points the outputs are written. -/
theorem live1 : ∀ t : Fin cfg1.N, last1 (grid1.coords t) →
    cfg1.idle 3 (grid1.coords t) = false ∧ cfg1.idle 4 (grid1.coords t) = false ∧ cfg1.idle 5 (grid1.coords t) = false := by
  decide +kernel

/-- What the body is called with at point `t`, and what it returns. -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))
def post1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

/-- An input window is handed back at its block. -/
theorem leaves1_in (c : Dev nD) (w : Fin cfg1.W) (t : Fin cfg1.N) (h : cfg1.idle w (grid1.coords t) = false) :
    (dat1 V c).leavesExact w t = owns (c : Thread nD τ) ((cfg1.win w).stage (cfg1.slots t w)) fullShare ((dat1 V c).after w t) := by
  unfold Dat.leavesExact; rw [show cfg1.idle w (cfg1.grid.coords t) = false from h]

/-- The body's triple, packed over the contents of the accumulators before and after. -/
def Runs1 (c : Dev nD) (t : Fin cfg1.N) (a a' : Accs F) (o3 o4 o5 o3' o4' o5' : Vec F S1x512x1 .f32) : Prop :=
  ∀ K : PUnit → sProp 𝕄,
    iprop(held1 c (st1_0 t) (st1_1 t) (st1_2 t) (st1_3 t) (st1_4 t) (st1_5 t) sc0 sc1 sc2 (blk1 V c 0 t) (blk1 V c 1 t) (blk1 V c 2 t)
          o3 o4 o5 a.u0 a.u1 a.u2
        ∗ (held1 c (st1_0 t) (st1_1 t) (st1_2 t) (st1_3 t) (st1_4 t) (st1_5 t) sc0 sc1 sc2 (blk1 V c 0 t) (blk1 V c 1 t) (blk1 V c 2 t)
          o3' o4' o5' a'.u0 a'.u1 a'.u2 -∗ K ⟨⟩))
      ⊢ wp frame (wpE (defs₀ (F := F)) Variants.none c none) Set.univ (bodyAt1 t) K

/-- At a point that is not the last of four: the accumulators reach `accs1`, the outputs are as before. -/
theorem runs1_idle (c : Dev nD) (t : Fin cfg1.N) (h1 : ¬ t.val % 4 = 3) (a : Accs F)
    (ha : ¬ t.val % 4 = 0 → a = accs1 V c (t.val - 1) (Nat.lt_of_le_of_lt (Nat.sub_le _ _) t.isLt)) (o3 o4 o5 : Vec F S1x512x1 .f32) :
    Runs1 V c t a (accs1 V c t.val t.isLt) o3 o4 o5 o3 o4 o5 := fun K => by
  by_cases h0 : t.val % 4 = 0
  · rw [accs1_first V c t h0]
    exact body1_first c (grid1.coords t) _ _ _ _ _ _ _ _ _ _ _ _ _ (Memref.isWhole_whole _) _ (Memref.isWhole_whole _) _
      (Memref.isWhole_whole _) (blk1 V c 0 t) (blk1 V c 1 t) (blk1 V c 2 t) ((first1_iff t).mpr h0) (fun h => h1 ((last1_iff t).mp h)) o3 o4 o5 _ _ _ Set.univ K
  · rw [accs1_later V c t h0, ← ha h0]
    exact body1_middle c (grid1.coords t) _ _ _ _ _ _ _ _ _ _ _ _ _ (Memref.isWhole_whole _) _ (Memref.isWhole_whole _) _
      (Memref.isWhole_whole _) (blk1 V c 0 t) (blk1 V c 1 t) (blk1 V c 2 t) (fun h => h0 ((first1_iff t).mp h)) (fun h => h1 ((last1_iff t).mp h)) o3 o4 o5 _ _ _ Set.univ K

/-- At the last of four points the outputs are computed from the accumulators. -/
theorem runs1_last (c : Dev nD) (t : Fin cfg1.N) (h1 : t.val % 4 = 3) (a : Accs F)
    (ha : ¬ t.val % 4 = 0 → a = accs1 V c (t.val - 1) (Nat.lt_of_le_of_lt (Nat.sub_le _ _) t.isLt)) (o3 o4 o5 : Vec F S1x512x1 .f32) :
    Runs1 V c t a (accs1 V c t.val t.isLt) o3 o4 o5 ((dat1 V c).after 3 t) ((dat1 V c).after 4 t) ((dat1 V c).after 5 t) := fun K => by
  have h0 : ¬ t.val % 4 = 0 := by omega
  rw [dat1_after3, dat1_after4, dat1_after5, accs1_later V c t h0, ← ha h0]
  exact body1_last c (grid1.coords t) _ _ _ _ _ _ _ _ _ _ _ _ _ (Memref.isWhole_whole _) _ (Memref.isWhole_whole _) _
    (Memref.isWhole_whole _) (blk1 V c 0 t) (blk1 V c 1 t) (blk1 V c 2 t) (fun h => h0 ((first1_iff t).mp h)) ((last1_iff t).mpr h1) o3 o4 o5 _ _ _ Set.univ K

set_option maxHeartbeats 1600000 in
/-- The body at any point. -/
theorem sound1 (c : Dev nD) (t : Fin cfg1.N) :
    pre1 V c t ⊢ wp frame (wpE (defs₀ (F := F)) Variants.none c none) Set.univ (bodyAt1 t) (fun _ => post1 V c t) := by
  unfold pre1 post1
  simp only [dat1_before0, dat1_before1, dat1_before2]
  rw [show (dat1 V c).owesAt () t.succ = (dat1 V c).owesAt () t.castSucc from rfl,
    show (dat1 V c).Φ t.castSucc = inv1 V c t.castSucc from rfl, show (dat1 V c).Φ t.succ = inv1 V c t.succ from rfl,
    leaves1_in V c 0 t rfl, leaves1_in V c 1 t rfl, leaves1_in V c 2 t rfl, dat1_after0, dat1_after1, dat1_after2]
  unfold inv1
  iintro ⟨⟨HR, ⟨%a, %ha, HS0, HS1, HS2⟩, Hg⟩, Ho, ⟨%d0, H0⟩, ⟨%d1, H1⟩, ⟨%d2, H2⟩, ⟨%d3, H3⟩, ⟨%d4, H4⟩, ⟨%d5, H5⟩⟩
  by_cases h1 : t.val % 4 = 3
  · obtain ⟨l3, l4, l5⟩ := live1 t ((last1_iff t).mpr h1)
    rw [leaves1_in V c 3 t l3, leaves1_in V c 4 t l4, leaves1_in V c 5 t l5]
    iapply (runs1_last V c t h1 a ha _ _ _ _)
    unfold held1
    isplitl [H0 H1 H2 H3 H4 H5 HS0 HS1 HS2]
    · isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iexact HS2
    iintro ⟨H0, H1, H2, H3, H4, H5, HS0, HS1, HS2⟩
    isplitl [HR HS0 HS1 HS2 Hg]
    · isplitl [HR]; · iexact HR
      isplitl [HS0 HS1 HS2]
      · iexists (accs1 V c t.val t.isLt)
        isplitr; · ipureintro; exact fun _ => rfl
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    iexact H5
  · obtain ⟨⟨i3, n3⟩, ⟨i4, n4⟩, ⟨i5, n5⟩⟩ := idle1 t (fun h => h1 ((last1_iff t).mp h))
    rw [Dat.leavesExact_idle (dat1 V c) 3 t i3 n3, Dat.leavesExact_idle (dat1 V c) 4 t i4 n4, Dat.leavesExact_idle (dat1 V c) 5 t i5 n5]
    iapply (runs1_idle V c t h1 a ha _ _ _ _)
    unfold held1
    isplitl [H0 H1 H2 H3 H4 H5 HS0 HS1 HS2]
    · isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iexact HS2
    iintro ⟨H0, H1, H2, H3, H4, H5, HS0, HS1, HS2⟩
    isplitl [HR HS0 HS1 HS2 Hg]
    · isplitl [HR]; · iexact HR
      isplitl [HS0 HS1 HS2]
      · iexists (accs1 V c t.val t.isLt)
        isplitr; · ipureintro; exact fun _ => rfl
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexists _; iexact H3
    isplitl [H4]; · iexists _; iexact H4
    iexists _; iexact H5

/-- The body's obligation at every point, as the pipeline's theorems take it. -/
theorem body1_ok (c : Dev nD) : BodyObligation (dat1 (F := F) V c) (defs₀ (F := F)) Variants.none () Set.univ := fun t => by
  rw [bigSep_W1, bigSep_W1, show defs₀ (F := F) .tc cfg1.body (cfg1.bodyArgs t (cfg1.slots t)) = bodyAt1 t from by
    unfold defs₀; rw [Defs.onTc_tc]]
  exact triple_restated (sound1 V c t) rfl .rfl fun _ => .rfl

/-- The scoped buffers the pipeline does not stage: the first call's staging buffers and the accumulators. -/
theorem scopedRest1_split (c : Dev nD) :
    (Pipeline.scopedRest (Ix := Unit) (Name := ℕ) (U := UR sig nD τ) (Lvl := ℕ) (Val := Elt F) spec1 c : sProp 𝕄)
      ⊣⊢ iprop(rest1 (F := F) c ∗ (∃ d, owns (c : Thread nD τ) sc0 fullShare d) ∗ (∃ d, owns (c : Thread nD τ) sc1 fullShare d)
          ∗ (∃ d, owns (c : Thread nD τ) sc2 fullShare d)) := by
  rw [scopedRest1_eq]
  simp only [sc0, sc1, sc2, owns_whole, rest1]
  constructor
  · iintro ⟨A, B, C, D, E, F, S⟩
    isplitl [A B C D E F]
    · isplitl [A]; · iexact A
      isplitl [B]; · iexact B
      isplitl [C]; · iexact C
      isplitl [D]; · iexact D
      isplitl [E]; · iexact E
      iexact F
    iexact S
  · iintro ⟨⟨A, B, C, D, E, F⟩, S⟩
    isplitl [A]; · iexact A
    isplitl [B]; · iexact B
    isplitl [C]; · iexact C
    isplitl [D]; · iexact D
    isplitl [E]; · iexact E
    isplitl [F]; · iexact F
    iexact S

/-- The invariant before the first point, -/
theorem inv1_in (c : Dev nD) :
    iprop(Pipeline.scopedRest (Ix := Unit) (Name := ℕ) (U := UR sig nD τ) (Lvl := ℕ) (Val := Elt F) spec1 c ∗ (∃ r, prngReg c r))
      ⊢ (dat1 V c).Φ 0 := by
  rw [show (dat1 V c).Φ 0 = inv1 V c 0 from rfl]
  unfold inv1
  iintro ⟨H, Hg⟩
  ihave H' := (scopedRest1_split (F := F) c).1 $$ H
  icases H' with ⟨HR, ⟨%d0, H0⟩, ⟨%d1, H1⟩, ⟨%d2, H2⟩⟩
  isplitl [HR]; · iexact HR
  isplitr [Hg]
  · iexists (⟨d0, d1, d2⟩ : Accs F)
    isplitr; · ipureintro; exact fun h => absurd (Nat.zero_mod 4) h
    isplitl [H0]; · iexact H0
    isplitl [H1]; · iexact H1
    iexact H2
  iexact Hg

/-- and what the last point's invariant hands back. -/
theorem inv1_out (c : Dev nD) :
    (dat1 V c).Φ (Fin.last cfg1.N) ⊢ iprop(Pipeline.scopedRest (Ix := Unit) (Name := ℕ) (U := UR sig nD τ) (Lvl := ℕ) (Val := Elt F) spec1 c
      ∗ (∃ r, prngReg c r)) := by
  rw [show (dat1 V c).Φ (Fin.last cfg1.N) = inv1 V c (Fin.last cfg1.N) from rfl]
  unfold inv1
  iintro ⟨HR, ⟨%a, %ha, H0, H1, H2⟩, Hg⟩
  isplitr [Hg]
  · iapply (scopedRest1_split (F := F) c).2
    isplitl [HR]; · iexact HR
    isplitl [H0]; · iexists _; iexact H0
    isplitl [H1]; · iexists _; iexact H1
    iexists _; iexact H2
  iexact Hg

end Cert.KernelIdeal.Launched

end
-- ==== Proof.Run.lean ====
module

public import proofs.«01_k».proof.Proof.Region0
public import proofs.«01_k».proof.Proof.Region1
public import proofs.«01_k».proof.Proof.Gen.KernelIdeal.Regions
public import Idealize.ShloMosaic.Lib.Pipeline.RegionArraysS

/-! # The whole program run: host operations and the two calls in turn

  The contents of every buffer are followed statement by statement: `W0` when the first call is entered, `W0'` when it is
  left, `W1` and `W1'` around the second call, `W2` at the end. -/

@[expose] public section

set_option maxRecDepth 16384

noncomputable section

namespace Cert.KernelIdeal.Launched

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-- The buffers when the first call is entered, -/
def W0 (c : Dev nD) : Valuation τ sig (Elt F) := V1 m c
/-- when it is left, -/
def W0' (c : Dev nD) : Valuation τ sig (Elt F) := Pipeline.afterRegion (dat0 (W0 m) c) (W0 m c)
/-- when the second call is entered, -/
def W1 (c : Dev nD) : Valuation τ sig (Elt F) := StableHlo.after hostOps1 (W0' m c)
/-- when it is left, -/
def W1' (c : Dev nD) : Valuation τ sig (Elt F) := Pipeline.afterRegion (dat1 (W1 m) c) (W1 m c)
/-- and at the end. -/
def W2 (c : Dev nD) : Valuation τ sig (Elt F) := StableHlo.after hostOps2 (W1' m c)

/-- The two calls' proof data. -/
def pdats : (p : Fin 2) → (c : Dev nD) → Dat τ (Elt F) Unit ℕ (UR sig nD τ) ℕ (cfgs p) c
  | ⟨0, _⟩ => dat0 (W0 m)
  | ⟨1, _⟩ => dat1 (W1 m)

/-- One level on each core's cells; no core owes another anything. -/
def L : GSem nD τ sig → Finset Unit := fun g => if g.1.2 = .tc then {()} else ∅
def lv : GSem nD τ sig → Unit → ℕ := fun _ _ => 0

/-- Only the cores have a level. -/
theorem hL (g : GSem nD τ sig) (h : g.1.2 ≠ .tc) : L g = ∅ := if_neg h

/-- What rides beside the buffers: the core owes nothing, and its generator register. -/
abbrev E (c : Dev nD) : sProp 𝕄 :=
  iprop((∃ Wd, owes (c : Thread nD τ) (0 : CellTallies nD τ sig Unit) Wd) ∗ (∃ r, prngReg c r) ∗ emp)

/-- The host operations before, between and after the calls. -/
def host0 : HostSeg (Ix := Unit) (Name := ℕ) (U := UR sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) E
def host1 : HostSeg (Ix := Unit) (Name := ℕ) (U := UR sig nD τ) (Lvl := ℕ) (pcfgs (F := F)) defs₀ Variants.none L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W0' m) E
def host2 : HostSeg (Ix := Unit) (Name := ℕ) (U := UR sig nD τ) (Lvl := ℕ) (pcfgs (F := F)) defs₀ Variants.none L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W1' m) E

/-- The first call waits at one level, and nothing is owed below it. -/
theorem cut0 : Pipeline.LevelCut (pcfgs (F := F)) adm () L lv 0 (fun _ => (0 : CellTallies nD τ sig Unit)) (fun _ => 0) where
  hι c w s := by unfold L; rw [if_pos rfl]; exact Finset.mem_singleton_self _
  hιb c w s := le_refl 0
  hD c g i h := absurd h (lt_irrefl 0)
/-- The second call waits at one level, and nothing is owed below it. -/
theorem cut1 : Pipeline.LevelCut (pcfgs (F := F)) adm () L lv 1 (fun _ => (0 : CellTallies nD τ sig Unit)) (fun _ => 0) where
  hι c w s := by unfold L; rw [if_pos rfl]; exact Finset.mem_singleton_self _
  hιb c w s := le_refl 0
  hD c g i h := absurd h (lt_irrefl 0)

/-- What the first call starts with gives its invariant. -/
theorem in0 (c : Dev nD) :
    iprop(Pipeline.scopedRest (Ix := Unit) (Name := ℕ) (U := UR sig nD τ) (Lvl := ℕ) (Val := Elt F) spec0 c ∗ (∃ r, prngReg c r))
      ⊢ (dat0 (W0 m) c).Φ 0 := .rfl
/-- The invariant of the first call gives what it ends with. -/
theorem out0 (c : Dev nD) : (dat0 (W0 m) c).Φ (Fin.last cfg0.N)
    ⊢ iprop(Pipeline.scopedRest (Ix := Unit) (Name := ℕ) (U := UR sig nD τ) (Lvl := ℕ) (Val := Elt F) spec0 c ∗ (∃ r, prngReg c r)) := .rfl

set_option backward.isDefEq.respectTransparency.types false in
/-- The first call's record, -/
def reg0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig)
    (fun c => iprop(∃ r, prngReg c r)) (fun c => iprop(∃ r, prngReg c r)) launch0.toP rfl
    (fun c => (body0_ok (W0 m) c).loose) (fun _ _ => rfl) (fun _ => rfl) (fun c => (dat0 (W0 m) c).share_full fun _ => rfl)
    (in0 m) (out0 m) (fun _ => 0) cut0 (fun _ => iprop(emp)) (W0 m) (fun c w => dat0_A (W0 m) c w)

set_option backward.isDefEq.respectTransparency.types false in
/-- and the second's. -/
def reg1 : RegionSeg (pcfgs (F := F)) adm (pdats m) () defs₀ Variants.none L lv 1 :=
  RegionSeg.ofHeldIn (pcfgs (F := F)) adm (pdats m) () defs₀ Variants.none L lv 1 (fun _ => 0) (Pipeline.ucRefs τ sig)
    (fun c => iprop(∃ r, prngReg c r)) (fun c => iprop(∃ r, prngReg c r)) launch1.toP rfl
    (fun c => (body1_ok (W1 m) c).loose) (fun _ _ => rfl) (fun _ => rfl) (fun c => (dat1 (W1 m) c).share_full fun _ => rfl)
    (inv1_in (W1 m)) (inv1_out (W1 m)) (fun _ => 0) cut1 (fun _ => iprop(emp)) (W1 m) (fun c w => dat1_A (W1 m) c w)

/-- @main as its five segments. -/
abbrev segs (_ : Dev nD) : List (Seg (pcfgs (F := F)) adm (pdats m) () defs₀ Variants.none L lv) :=
  [.host (host0 m), .region (reg0 m), .host (host1 m), .region (reg1 m), .host (host2 m)]

/-- The arrays of the first call outlive it. -/
theorem arr_uc0 : ∀ w : Fin (pcfgs (F := F) 0).W, (Pipeline.arrRef (pcfgs (F := F) 0).spec w).isScoped = false :=
  show ∀ w : Fin cfg0.W, (Pipeline.arrRef spec0 w).isScoped = false by decide
/-- The arrays of the second call outlive it. -/
theorem arr_uc1 : ∀ w : Fin (pcfgs (F := F) 1).W, (Pipeline.arrRef (pcfgs (F := F) 1).spec w).isScoped = false :=
  show ∀ w : Fin cfg1.W, (Pipeline.arrRef spec1 w).isScoped = false by decide

/-- The first host segment hands over to the first call. -/
theorem link0 (c : Dev nD) : (host0 m).post c ⊢ (reg0 m).pre c := by
  have e : (host0 m).post c = iprop(StableHlo.held (c : Thread nD τ) (Pipeline.ucRefs τ sig) (W0 m c) ∗ E c) := rfl
  rw [e]
  refine BIBase.Entails.trans ?_ (RegionSeg.ofHeldIn_pre (Pipeline.arrRefs_sub_ucRefs _ arr_uc0) c)
  exact .rfl
/-- The first call hands over to the second host segment. -/
theorem link1 (c : Dev nD) : (reg0 m).post c ⊢ (host1 m).pre c :=
  RegionSeg.ofHeldIn_post (Pipeline.arrRefs_sub_ucRefs _ arr_uc0) c
/-- The second host segment hands over to the second call. -/
theorem link2 (c : Dev nD) : (host1 m).post c ⊢ (reg1 m).pre c := by
  have e : (host1 m).post c = iprop(StableHlo.held (c : Thread nD τ) (Pipeline.ucRefs τ sig) (W1 m c) ∗ E c) := rfl
  rw [e]
  refine BIBase.Entails.trans ?_ (RegionSeg.ofHeldIn_pre (Pipeline.arrRefs_sub_ucRefs _ arr_uc1) c)
  exact .rfl
/-- The second call hands over to the last host segment. -/
theorem link3 (c : Dev nD) : (reg1 m).post c ⊢ (host2 m).pre c :=
  RegionSeg.ofHeldIn_post (Pipeline.arrRefs_sub_ucRefs _ arr_uc1) c

/-- A buffer that no host operation and no call writes is at the end as at the start. -/
theorem W2_keeps (c : Dev nD) (r : Ref sig .tc) (h0 : r ∉ hostOps0_W) (h1 : r ∉ hostOps1_W) (h2 : r ∉ hostOps2_W)
    (hr0 : ∀ w, Pipeline.arrRef spec0 w = r → (cfg0.win w).isOut = false)
    (hr1 : ∀ w, Pipeline.arrRef spec1 w = r → (cfg1.win w).isOut = false) :
    W2 m c (Proc.devRef .tc r) = m ((c : Thread nD τ).loc r) := by
  unfold W2
  rw [StableHlo.after_of_writes_sub hostOps2 _ hostOps2_writes h2]
  unfold W1'
  rw [Pipeline.afterRegion_keeps (dat1 (W1 m) c) (W1 m c) launch1.win.arr_inj (dat1_A (W1 m) c) r hr1]
  unfold W1
  rw [StableHlo.after_of_writes_sub hostOps1 _ hostOps1_writes h1]
  unfold W0'
  rw [Pipeline.afterRegion_keeps (dat0 (W0 m) c) (W0 m c) launch0.win.arr_inj (dat0_A (W0 m) c) r hr0]
  unfold W0
  rw [V1_of m c r h0]

/-- What the run ends with: every buffer at `W2`. -/
def Final (s : MemSt nD τ sig (Elt F)) : Prop :=
  ∀ (c : Dev nD) (b : Ref sig .tc), (Proc.devRef .tc b : DevRef τ sig) ∈ Pipeline.ucRefs τ sig →
    s.mem ((c : Thread nD τ).loc b) = W2 m c (Proc.devRef .tc b)

set_option backward.isDefEq.respectTransparency.types false in
/-- The whole run: from any memory with zero counters every execution ends, every buffer at `W2`, the counters at zero. -/
theorem run_main (ρ : Dev nD → PrngReg) :
    θ_run defs (onTc (τ := τ) (main (F := F))) ⟨m, fun _ => 0, ρ⟩ (fun r => Final m r.2 ∧ r.2.sem = fun _ => 0) := by
  refine Pipeline.θ_run_regions_kit_dev_sems (pcfgs (F := F)) adm (pdats m) () cellOf_inj emb₁ defs₀ Variants.none L lv m ρ main
    (segs m)
    (fun c Q => by
      rewrite [main_chain c, Seg.run_eq_chain,
        show (segs m c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0) hL
    (fun _ => iprop(emp)) (initOf (Pipeline.cells cfgs cellOf_inj) (Pipeline.launchToks cfgs cellOf_inj))
    (by
      iintro Hu
      imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := (host0 m).pre)
    (Tₙ := fun c => StableHlo.held (c : Thread nD τ) (Pipeline.ucRefs τ sig) (W2 m c))
    (hch := fun c => ⟨.rfl, link0 m c, link1 m c, link2 m c, link3 m c, ?_⟩)
    (hinit := ?_)
    (QY := fun c s => ∀ b : Ref sig .tc, (Proc.devRef .tc b : DevRef τ sig) ∈ Pipeline.ucRefs τ sig →
      s.mem ((c : Thread nD τ).loc b) = W2 m c (Proc.devRef .tc b))
    (hfin := fun c s' => ?_) (hQ := fun _ h hz => ⟨h, funext fun g => hz g (.inr (regions_no_unscoped g.2))⟩)
  · refine sep_mono .rfl ?_
    iintro ⟨HO, -, -⟩
    iexact HO
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    unfold host0 HostSeg.ofOps
    isplitl [Hh]; · iexact Hh
    isplitl [HO]; · iexists ∅; iexact HO
    isplitl [Hp]; · iexists _; iexact Hp
    iempintro
  · unfold StableHlo.held
    iintro ⟨Hh, HSI⟩
    ihave Hr := (pointsTo_read_all (Pipeline.ucRefs τ sig) (fun b => ((c : Thread nD τ).1, b)) (W2 m c) s') $$ [Hh HSI]
    · isplitl [Hh] <;> iassumption
    icases Hr with ⟨%h, HSI⟩
    imodintro
    isplitr; · ipureintro; exact fun b hb => h _ hb
    iexact HSI

/-- Every TensorCore buffer outside the scopes is one of those held. -/
theorem uc_mem (b : Ref sig .tc) (h : (Proc.devRef .tc b : DevRef τ sig).isScoped = false) :
    (Proc.devRef .tc b : DevRef τ sig) ∈ Pipeline.ucRefs τ sig :=
  Finset.mem_filter.mpr ⟨StableHlo.devRef_mem_tcRefs b, by rw [h]; decide⟩

/-- The run read off: the arguments are kept, the results hold `W2`'s arrays. -/
theorem run_read (ρ : Dev nD → PrngReg) :
    θ_run defs (onTc (τ := τ) (main (F := F))) ⟨m, fun _ => 0, ρ⟩ (fun r =>
      (∀ c : Dev nD,
        (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6))
        ∧ r.2.mem ((c.tc : Thread nD τ).loc main_v0_0) = W2 m c (Proc.devRef .tc main_v0_0)
        ∧ r.2.mem ((c.tc : Thread nD τ).loc main_v0_1) = W2 m c (Proc.devRef .tc main_v0_1))
      ∧ r.2.sem = fun _ => 0) := by
  refine (θ_run defs _ _).mono (fun r h => ?_) (run_main m ρ)
  have k := fun c b hb => h.1 c b (uc_mem b hb)
  refine ⟨fun c => ⟨⟨?_, ?_, ?_, ?_, ?_, ?_, ?_⟩, k c _ rfl, k c _ rfl⟩, h.2⟩ <;>
    exact (k c _ rfl).trans (W2_keeps m c _ (by decide) (by decide) (by decide) (by decide) (by decide))

end Cert.KernelIdeal.Launched

end
-- ==== Proof.Frames.lean ====
module

public import proofs.«01_k».proof.Proof.Run
public import proofs.«01_k».proof.Proof.Gen.Kernel.Launch
public import proofs.«01_k».proof.Proof.Gen.ReferenceIdeal.Run
public import proofs.«01_k».proof.Defs
public import Idealize.ShloMosaic.Adequacy
public import Idealize.ShloMosaic.Init
public import Idealize.ShloMosaic.Lib.Tactic

/-! # The three programs run and leave their arguments as they were -/

@[expose] public section

set_option maxRecDepth 16384

noncomputable section

namespace Cert.KernelIdeal.Launched

open Idealize.ShloMosaic Idealize.ShloMosaic.TcCoe Idealize.ShloMosaic.Tactic Idealize.SL.Sem

section Same

variable {F : FTy → Type} [FloatOps F] [Cert.Kernel.Facts] [Cert.KernelIdeal.Facts]

/-- The idealized program is the program's own text: @main is the same, -/
theorem main_same : (Cert.Kernel.main (F := F)) = (Cert.KernelIdeal.main (F := F)) := rfl

/-- and so are the kernels it calls. -/
theorem defs_same : (Cert.Kernel.defs (F := F)) = (Cert.KernelIdeal.defs (F := F)) := by sl_kernel_rfl

end Same

/-- The program at its own floats. -/
theorem kernel_frame (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0) := by
  rw [main_same, defs_same]
  exact (θ_run (Cert.KernelIdeal.defs (F := Bits)) _ _).mono (fun r h => ⟨fun c => (h.1 c).1, h.2⟩) (run_read m g)

/-- The reference. -/
theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0) :=
  (θ_run Cert.ReferenceIdeal.defs _ _).mono
    (fun r h => ⟨fun c => (h c).2.2, sem_eq_zero_of_no_sems (by decide) r.2⟩)
    (Cert.ReferenceIdeal.Value.run (F := Ideal) m g)

end Cert.KernelIdeal.Launched

end
-- ==== Proof.Taps.lean ====
module

public import Idealize.ShloMosaic.Lib.Pointwise
public import Idealize.ShloMosaic.Lib.IdealHost
public import Idealize.ShloMosaic.PureOps.Ideal

/-! # One axis of the interpolation

A sample's coordinate on one axis gives a cell (a 32-bit word) and a fraction. The two corners of the
cell are its own word and the next one. A corner outside the 64 positions of the axis weighs nothing,
and is moved to the nearest position. The kernel instead asks of every position whether it is one of
the two corners; the two descriptions are one. -/

@[expose] public section

noncomputable section

namespace Cert.Sample

open Idealize.ShloMosaic

/-- The coordinate in voxels of a normalised coordinate. -/
def coord (g : EReal) : EReal := (g + 1) * Ideal.ofBits .f32 0x41FC0000#32

/-- The word of the cell a normalised coordinate lies in. -/
def cell (g : EReal) : BitVec 32 := Ideal.fptosi 32 (Ideal.liftRound Int.floor (coord g))

/-- The fraction of a normalised coordinate within its cell. -/
def frac (g : EReal) : EReal := coord g - Ideal.liftRound Int.floor (coord g)

/-- The word of corner `d` of the cell `i`. -/
def corner (i : BitVec 32) (d : Fin 2) : BitVec 32 := i + BitVec.ofNat 32 d

/-- A word names one of the 64 positions. -/
def Inside (w : BitVec 32) : Prop := 0 ≤ w.toInt ∧ w.toInt < 64

instance (w : BitVec 32) : Decidable (Inside w) := by unfold Inside; infer_instance

/-- The position nearest a word. -/
def place (w : BitVec 32) : Fin 64 := ⟨(min 63 (max 0 w.toInt)).toNat, by omega⟩

/-- One where corner `d` is inside, else zero. -/
def ind (i : BitVec 32) (d : Fin 2) : EReal := if Inside (corner i d) then 1 else 0

/-- The linear weight of corner `d`. -/
def wt (t : EReal) (d : Fin 2) : EReal := if d = 0 then 1 - t else t

/-- The derivative of the linear weight of corner `d`. -/
def sgn (d : Fin 2) : EReal := if d = 0 then -1 else 1

/-- The weight of corner `d`, nothing outside. -/
def eW (i : BitVec 32) (t : EReal) (d : Fin 2) : EReal := wt t d * ind i d

/-- The derivative of the weight of corner `d`, nothing outside. -/
def eD (i : BitVec 32) (d : Fin 2) : EReal := sgn d * ind i d

/-- The kernel's weight of the position named by `w`. -/
def tapW (i : BitVec 32) (t : EReal) (w : BitVec 32) : EReal :=
  (if w = i then 1 - t else 0) + (if w = i + 1#32 then t else 0)

/-- The kernel's derivative weight of the position named by `w`. -/
def tapD (i : BitVec 32) (w : BitVec 32) : EReal :=
  (if w = i + 1#32 then 1 else 0) - (if w = i then 1 else 0)

/-- The word of a position, read as an integer. -/
theorem toInt_pos (j : Fin 64) : (BitVec.ofNat 32 j.val).toInt = j.val := by
  rw [BitVec.toInt_eq_toNat_cond, BitVec.toNat_ofNat]
  have := j.isLt
  have e : j.val % 2 ^ 32 = j.val := Nat.mod_eq_of_lt (by omega)
  rw [e, if_pos (by omega)]

/-- The word of a position is `w` exactly when `w` is inside and names that position. -/
theorem eq_word_iff (j : Fin 64) (w : BitVec 32) : BitVec.ofNat 32 j.val = w ↔ Inside w ∧ place w = j := by
  have hj := toInt_pos j
  have hl := j.isLt
  constructor
  · rintro rfl
    refine ⟨by unfold Inside; omega, Fin.ext ?_⟩
    show (min 63 (max 0 (BitVec.ofNat 32 j.val).toInt)).toNat = j.val
    omega
  · rintro ⟨⟨h0, h1⟩, h⟩
    have h2 : (min 63 (max 0 w.toInt)).toNat = j.val := congrArg Fin.val h
    apply BitVec.eq_of_toInt_eq
    omega

/-- A test of position `j` against a word outside fails, and a word inside names its position. -/
theorem test_eq (j : Fin 64) (w : BitVec 32) (x : EReal) :
    (if BitVec.ofNat 32 j.val = w then x else 0) = if place w = j then x * (if Inside w then 1 else 0) else 0 := by
  simp only [eq_word_iff]
  by_cases h : Inside w <;> by_cases h' : place w = j <;> simp [h, h']

/-- The lower corner is the cell itself. -/
theorem corner_zero (i : BitVec 32) : corner i 0 = i := by simp [corner]
/-- The upper corner is the next cell. -/
theorem corner_one (i : BitVec 32) : corner i 1 = i + 1#32 := rfl

/-- The kernel's weight of a position is that of the corners that lie there. -/
theorem tapW_eq (i : BitVec 32) (t : EReal) (j : Fin 64) :
    tapW i t (BitVec.ofNat 32 j.val) = ∑ d : Fin 2, if place (corner i d) = j then eW i t d else 0 := by
  rw [Fin.sum_univ_two, tapW, test_eq, test_eq]
  simp only [eW, ind, corner_zero, corner_one, wt, if_true, one_ne_zero, if_false]
  rfl

/-- The kernel's derivative weight of a position is that of the corners that lie there. -/
theorem tapD_eq (i : BitVec 32) (j : Fin 64) :
    tapD i (BitVec.ofNat 32 j.val) = ∑ d : Fin 2, if place (corner i d) = j then eD i d else 0 := by
  rw [Fin.sum_univ_two, tapD, test_eq, test_eq, sub_eq_add_neg, add_comm]
  simp only [eD, ind, corner_zero, corner_one, sgn, if_true, one_ne_zero, if_false]
  congr 1
  by_cases h : place i = j <;> by_cases h' : Inside i <;> simp [h, h']

/-- At most one of the two corners, inside, lies at a position. -/
theorem one_corner (i : BitVec 32) (j : Fin 64) :
    ¬ (Inside (corner i 0) ∧ place (corner i 0) = j) ∨ ¬ (Inside (corner i 1) ∧ place (corner i 1) = j) := by
  by_contra h
  push Not at h
  obtain ⟨h0, h1⟩ := h
  have e0 := (eq_word_iff j _).2 h0
  have e1 := (eq_word_iff j _).2 h1
  rw [e0] at e1
  rw [corner_zero, corner_one] at e1
  have := congrArg BitVec.toNat e1
  rw [BitVec.toNat_add] at this
  have := i.isLt
  simp at *

/-- The kernel's weight times a factor: the factor goes to each corner. -/
theorem tapW_mul (i : BitVec 32) (t : EReal) (j : Fin 64) (r : EReal) :
    tapW i t (BitVec.ofNat 32 j.val) * r = ∑ d : Fin 2, if place (corner i d) = j then eW i t d * r else 0 := by
  rw [tapW_eq, Fin.sum_univ_two, Fin.sum_univ_two]
  rcases one_corner i j with h | h
  · have e : ∀ r : EReal, (if place (corner i 0) = j then eW i t 0 * r else 0) = 0 := by
      intro r
      by_cases h' : place (corner i 0) = j
      · have : ¬ Inside (corner i 0) := fun hh => h ⟨hh, h'⟩
        simp [eW, ind, this]
      · simp [h']
    have e1 : (if place (corner i 0) = j then eW i t 0 else 0) = 0 := by simpa using e 1
    rw [e, e1, zero_add, zero_add]
    split <;> simp
  · have e : ∀ r : EReal, (if place (corner i 1) = j then eW i t 1 * r else 0) = 0 := by
      intro r
      by_cases h' : place (corner i 1) = j
      · have : ¬ Inside (corner i 1) := fun hh => h ⟨hh, h'⟩
        simp [eW, ind, this]
      · simp [h']
    have e1 : (if place (corner i 1) = j then eW i t 1 else 0) = 0 := by simpa using e 1
    rw [e, e1, add_zero, add_zero]
    split <;> simp

/-- The word of 31.5. -/
theorem ofBits_31_5 : Ideal.ofBits .f32 0x41FC0000#32 = ((31.5 : ℝ) : EReal) := by
  simp [Ideal.ofBits, Ideal.ieee, -EReal.coe_mul]; norm_num
/-- The word of 63. -/
theorem ofBits_63 : Ideal.ofBits .f32 0x427C0000#32 = ((63 : ℝ) : EReal) := by
  simp [Ideal.ofBits, Ideal.ieee, -EReal.coe_mul]; norm_num
/-- The word of one half. -/
theorem ofBits_half : Ideal.ofBits .f32 0x3F000000#32 = ((0.5 : ℝ) : EReal) := by
  simp [Ideal.ofBits, Ideal.ieee, -EReal.coe_mul]; norm_num

/-- Halving and scaling by 63 is scaling by 31.5. -/
theorem coord_eq (g : EReal) : ((g + 1) * Ideal.ofBits .f32 0x3F000000#32) * Ideal.ofBits .f32 0x427C0000#32 = coord g := by
  rw [mul_assoc, coord, ofBits_31_5, ofBits_63, ofBits_half, ← EReal.coe_mul]
  norm_num

/-- The indicator is a real number. -/
theorem ind_real (i : BitVec 32) (d : Fin 2) : ∃ r : ℝ, ind i d = r := by
  unfold ind; split
  · exact ⟨1, rfl⟩
  · exact ⟨0, rfl⟩

/-- The derivative weight is a real number. -/
theorem eD_real (i : BitVec 32) (d : Fin 2) : ∃ r : ℝ, eD i d = r := by
  obtain ⟨r, hr⟩ := ind_real i d
  unfold eD sgn; rw [hr]
  split
  · exact ⟨(-1) * r, by rw [EReal.coe_mul]; rfl⟩
  · exact ⟨1 * r, by rw [EReal.coe_mul]; rfl⟩

/-- At an infinite coordinate both corners are outside. -/
theorem ind_top (d : Fin 2) : ind (Ideal.fptosi 32 ⊤) d = 0 := by
  have e : Ideal.fptosi 32 ⊤ = 2147483647#32 := by
    show BitVec.ofInt 32 (((2 ^ (32 - 1) : Nat) : Int) - 1) = _
    decide
  rw [e]; unfold ind; rw [if_neg]; revert d; decide
/-- At minus infinity both corners are outside. -/
theorem ind_bot (d : Fin 2) : ind (Ideal.fptosi 32 ⊥) d = 0 := by
  have e : Ideal.fptosi 32 ⊥ = 2147483648#32 := by
    show BitVec.ofInt 32 (-((2 ^ (32 - 1) : Nat) : Int)) = _
    decide
  rw [e]; unfold ind; rw [if_neg]; revert d; decide

/-- The weight of a corner is a real number, whatever the coordinate. -/
theorem eW_real (g : EReal) (d : Fin 2) : ∃ r : ℝ, eW (cell g) (frac g) d = r := by
  unfold eW cell frac
  induction coord g with
  | bot => exact ⟨0, by rw [Ideal.liftRound_bot, ind_bot, mul_zero]; rfl⟩
  | top => exact ⟨0, by rw [Ideal.liftRound_top, ind_top, mul_zero]; rfl⟩
  | coe x =>
    rw [Ideal.liftRound_coe]
    obtain ⟨r, hr⟩ := ind_real (Ideal.fptosi 32 ((⌊x⌋ : ℝ) : EReal)) d
    rw [hr, ← EReal.coe_sub]
    unfold wt; split
    · exact ⟨(1 - (x - ⌊x⌋)) * r, by rw [EReal.coe_mul, EReal.coe_sub]; rfl⟩
    · exact ⟨(x - ⌊x⌋) * r, by rw [EReal.coe_mul]⟩

end Cert.Sample

end
-- ==== Proof.Words.lean ====
module

public import Idealize.ShloMosaic.Lib.Pointwise
public import Idealize.ShloMosaic.Lib.WordArith

/-! # Index words

The kernel finds the position of a lane by floor division and remainder of its number, on 32-bit words. -/

@[expose] public section

set_option maxRecDepth 65536

noncomputable section

namespace Cert.Sample

open Idealize.ShloMosaic

/-- A select on an equality of words is an `if`. -/
theorem select_eq {α : Type} (a b : BitVec 32) (x y : α) :
    Scalar.select (IntOp.cmpi .eq a b) x y = if a = b then x else y := by
  unfold Scalar.select IntOp.cmpi
  by_cases h : a = b
  · subst h; simp
  · have h' : (a == b) = false := beq_eq_false_iff_ne.2 h
    simp [h, h']

/-- Floor division of words, as the kernel spells it. -/
abbrev fdiv (w d : BitVec 32) : BitVec 32 :=
  Scalar.select
    (IntOp.andi
      (IntOp.cmpi .ne (IntOp.subi (BitVec.setWidth 32 (IntOp.cmpi .sgt w 0#32)) (BitVec.setWidth 32 (IntOp.cmpi .slt w 0#32)))
        (Scalar.subi (Scalar.extui (Scalar.cmpi .sgt d 0#32)) (Scalar.extui (Scalar.cmpi .slt d 0#32))))
      (IntOp.cmpi .ne (IntOp.remsi ArithUnit.vector w d) 0#32))
    (IntOp.subi (IntOp.divsi ArithUnit.vector w d) 1#32)
    (IntOp.divsi ArithUnit.vector w d)

/-- The divisor as the kernel's remainder guards it. -/
abbrev guard (d : BitVec 32) : BitVec 32 := Scalar.select (Scalar.cmpi .eq d 0#32) 1#32 d

/-- The remainder of words with the divisor's sign, as the kernel spells it. -/
abbrev fmod (w d : BitVec 32) : BitVec 32 :=
  Scalar.select
    (IntOp.andi
      (IntOp.xori (IntOp.cmpi .slt (IntOp.remsi ArithUnit.vector w (guard d)) 0#32) (Scalar.cmpi .slt (guard d) 0#32))
      (IntOp.cmpi .ne (IntOp.remsi ArithUnit.vector w (guard d)) 0#32))
    (IntOp.addi (IntOp.remsi ArithUnit.vector w (guard d)) (guard d))
    (IntOp.remsi ArithUnit.vector w (guard d))

/-- Floor division by 64, of a row number. -/
theorem fdiv64 : ∀ k : Fin 4096, fdiv (BitVec.ofNat 32 k.val) 64#32 = BitVec.ofNat 32 (k.val / 64) := by decide +kernel
/-- The remainder by 64, of a row number. -/
theorem fmod64 : ∀ k : Fin 4096, fmod (BitVec.ofNat 32 k.val) 64#32 = BitVec.ofNat 32 (k.val % 64) := by decide +kernel
/-- Floor division by 32, of a lane number. -/
theorem fdiv32 : ∀ k : Fin 2048, fdiv (BitVec.ofNat 32 k.val) 32#32 = BitVec.ofNat 32 (k.val / 32) := by decide +kernel
/-- The remainder by 32, of a lane number. -/
theorem fmod32 : ∀ k : Fin 2048, fmod (BitVec.ofNat 32 k.val) 32#32 = BitVec.ofNat 32 (k.val % 32) := by decide +kernel

/-- The number of a lane of chunk `a`. -/
theorem lane_word (a : Fin 4) (k : Fin 1024) :
    IntOp.addi (BitVec.ofNat 32 k.val) (Scalar.muli (BitVec.ofNat 32 a.val) 1024#32) = BitVec.ofNat 32 (1024 * a.val + k.val) := by
  show BitVec.ofNat 32 k.val + BitVec.ofNat 32 a.val * 1024#32 = _
  have := a.isLt
  have := k.isLt
  apply BitVec.eq_of_toNat_eq
  simp only [BitVec.toNat_add, BitVec.toNat_mul, BitVec.toNat_ofNat]
  omega

/-- The one-hot product picks its one entry. -/
theorem sum_one_hot (f : Fin 32 → EReal) (l : Fin 2048) :
    (∑ x : Fin 32, f x * FloatOps.sitofp (F := Ideal) .f32
        (BitVec.setWidth 32 (IntOp.cmpi .eq (fmod (BitVec.ofNat 32 l.val) 32#32) (BitVec.ofNat 32 x.val))))
      = f ⟨l.val % 32, Nat.mod_lt _ (by norm_num)⟩ := by
  rw [Finset.sum_eq_single (⟨l.val % 32, Nat.mod_lt _ (by norm_num)⟩ : Fin 32)]
  · have e : FloatOps.sitofp (F := Ideal) .f32
        (BitVec.setWidth 32 (IntOp.cmpi .eq (fmod (BitVec.ofNat 32 l.val) 32#32) (BitVec.ofNat 32 (l.val % 32)))) = (1 : EReal) := by
      rw [fmod32]
      have h : IntOp.cmpi .eq (BitVec.ofNat 32 (l.val % 32)) (BitVec.ofNat 32 (l.val % 32)) = 1#1 := by simp [IntOp.cmpi]
      rw [h]
      show (((BitVec.setWidth 32 1#1).toInt : ℝ) : EReal) = 1
      have : (BitVec.setWidth 32 1#1).toInt = 1 := by decide
      rw [this]; norm_num
    exact (congrArg (f _ * ·) e).trans (mul_one _)
  · intro x _ hx
    have e : FloatOps.sitofp (F := Ideal) .f32
        (BitVec.setWidth 32 (IntOp.cmpi .eq (fmod (BitVec.ofNat 32 l.val) 32#32) (BitVec.ofNat 32 x.val))) = (0 : EReal) := by
      rw [fmod32]
      have h : IntOp.cmpi .eq (BitVec.ofNat 32 (l.val % 32)) (BitVec.ofNat 32 x.val) = 0#1 := by
        have : BitVec.ofNat 32 (l.val % 32) ≠ BitVec.ofNat 32 x.val := by
          intro h
          have h2 := congrArg BitVec.toNat h
          simp only [BitVec.toNat_ofNat] at h2
          have := x.isLt
          apply hx; apply Fin.ext
          show x.val = l.val % 32
          omega
        have h' : (BitVec.ofNat 32 (l.val % 32) == BitVec.ofNat 32 x.val) = false := beq_eq_false_iff_ne.2 this
        simp only [IntOp.cmpi, h']; rfl
      rw [h]
      show (((BitVec.setWidth 32 0#1).toInt : ℝ) : EReal) = 0
      have : (BitVec.setWidth 32 0#1).toInt = 0 := by decide
      rw [this]; norm_num
    rw [e, mul_zero]
  · intro h; exact absurd (Finset.mem_univ _) h

end Cert.Sample

end
-- ==== Proof.Read0.lean ====
module

public import proofs.«01_k».proof.Proof.Body0
public import proofs.«01_k».proof.Proof.Taps
public import proofs.«01_k».proof.Proof.Words

/-! # What one run of the first body computes, element by element -/

@[expose] public section

set_option maxRecDepth 16384

noncomputable section

namespace Cert.KernelIdeal.Launched

open Cert.KernelIdeal.Gen
open Idealize.ShloMosaic Cert.Sample

/-- The weight of voxel row `k` (16 planes of 64 rows to a chunk) of chunk `a` for the sample at `g`. -/
def rowW (gz gy : EReal) (a : Fin 4) (k : Fin 1024) : EReal :=
  tapW (cell gz) (frac gz) (BitVec.ofNat 32 ((1024 * a.val + k.val) / 64))
    * tapW (cell gy) (frac gy) (BitVec.ofNat 32 ((1024 * a.val + k.val) % 64))

/-- The table over the (z, y) positions holds the product of the two weights. -/
theorem tabA_at (i : grid0.Coords) (a : Fin 4) (ha : (i 1).val = a.val) (x0 : Vec Ideal S1x512x3 .f32) (p : Fin 512) (k : Fin 1024) :
    tabA i x0 (ix2 p k) = rowW (x0 (ix3 0 p 2)) (x0 (ix3 0 p 1)) a k := by
  have hl := lane_word a k
  have hlt : 1024 * a.val + k.val < 4096 := by have := a.isLt; have := k.isLt; omega
  have hd := fdiv64 ⟨_, hlt⟩
  have hm := fmod64 ⟨_, hlt⟩
  dsimp only at hd hm
  pointwise [tabA, k0_pay28, k0_pay21, k0_pay10, k0_pay13, k0_pay18, k0_pay15, k0_pay19, k0_pay11, k0_pay14, k0_pay16, k0_pay17,
    k0_pay20, k0_pay7, k0_pay8, k0_pay4, k0_pay5, k0_pay2]
  rw [ha, hl]
  unfold fdiv at hd
  unfold fmod Sample.guard at hm
  simp only [hd, hm, select_eq]
  rfl

/-- The table over the (x, channel) positions holds the weight along x times the incoming gradient. -/
theorem tabB_at (x0 : Vec Ideal S1x512x3 .f32) (x1 : Vec Ideal S1x512x32 .f32) (p : Fin 512) (l : Fin 2048) :
    tabB x0 x1 (ix2 p l) = tapW (cell (x0 (ix3 0 p 0))) (frac (x0 (ix3 0 p 0))) (BitVec.ofNat 32 (l.val / 32))
      * x1 (ix3 0 p ⟨l.val % 32, Nat.mod_lt _ (by norm_num)⟩) := by
  have hd := fdiv32 l
  have hs := sum_one_hot (fun x => x1 (ix3 0 p x)) l
  pointwise [tabB, k0_pay29, k0_pay9, k0_pay12, k0_pay22, k0_pay23, k0_pay24, k0_pay25, k0_pay3, k0_pay6, k0_pay2]
  unfold fdiv at hd
  unfold fmod Sample.guard at hs
  rw [hs]
  simp only [hd, select_eq]
  rfl

/-- One run adds the product of the two tables. -/
theorem step0_at (i : grid0.Coords) (x0 : Vec Ideal S1x512x3 .f32) (x1 : Vec Ideal S1x512x32 .f32)
    (acc : Vec Ideal S1x1024x2048 .f32) (r : Fin 1024) (k : Fin 2048) :
    step0 i x0 x1 acc (ix3 0 r k) = acc (ix3 0 r k) + ∑ p : Fin 512, tabA i x0 (ix2 p r) * tabB x0 x1 (ix2 p k) := by
  pointwise [step0, k0_pay1, k0_pay27]

/-- The block a first run starts from is zero. -/
theorem zero0_at (j : S1x1024x2048.Idx) : k0_pay26 (F := Ideal) j = 0 := by
  idx_vars j
  pointwise [k0_pay26]

end Cert.KernelIdeal.Launched

end
-- ==== Proof.Array0.lean ====
module

public import proofs.«01_k».proof.Proof.Region0
public import proofs.«01_k».proof.Proof.Read0

/-! # What the first call leaves in its array

Each of the sixteen blocks of the array collects the 64 blocks of samples of its image; so every element is
the sum, over all samples of the image, of the weights of its voxel times the incoming gradient. -/

@[expose] public section

set_option maxRecDepth 16384

noncomputable section

namespace Cert.KernelIdeal.Launched

open Cert.KernelIdeal.Gen
open Idealize.ShloMosaic Idealize.ShloMosaic.TcCoe Cert.Sample
open Idealize.SL.Sem
open Idealize.ShloMosaic.Pipeline (Dat Cfg Window)

/-- A sum over the 32768 samples, 64 blocks of 512 at a time. -/
theorem sum_samples (f : Fin 32768 → EReal) :
    (∑ b ∈ Finset.range 64, ∑ p : Fin 512, f ⟨(512 * b + p.val) % 32768, Nat.mod_lt _ (by norm_num)⟩) = ∑ P : Fin 32768, f P := by
  rw [Finset.sum_range, ← Fintype.sum_prod_type' (fun (b : Fin 64) (p : Fin 512) => f ⟨(512 * b.val + p.val) % 32768, Nat.mod_lt _ (by norm_num)⟩)]
  refine Fintype.sum_equiv (finProdFinEquiv (m := 64) (n := 512)) _ _ fun x => congrArg f (Fin.ext ?_)
  have h1 := x.1.isLt
  have h2 := x.2.isLt
  show (512 * x.1.val + x.2.val) % 32768 = x.2.val + 512 * x.1.val
  omega

variable (V : (c : Dev nD) → Valuation τ sig (Elt Ideal))

/-- The sampling grid and the incoming gradient as the call reads them. -/
def gridA (c : Dev nD) : S4x32768x3.Idx → EReal := V c (Proc.devRef .tc main_call0_v0)
/-- The incoming gradient as the first call reads it. -/
def goA (c : Dev nD) : S4x32768x32.Idx → EReal := V c (Proc.devRef .tc main_call0_v2)

/-- The block of the grid that step `t` reads: image and block of points. -/
theorem index0_0 : ∀ t : Fin cfg0.N, win0_0.index t = ![t.val / 256, t.val % 64, 0] :=
  (by decide +kernel : ∀ t : Fin grid0.N, _)
/-- The block of the incoming gradient that step `t` reads. -/
theorem index0_1 : ∀ t : Fin cfg0.N, win0_1.index t = ![t.val / 256, t.val % 64, 0] :=
  (by decide +kernel : ∀ t : Fin grid0.N, _)
/-- The block of the result that step `t` writes: image and chunk of rows. -/
theorem index0_2 : ∀ t : Fin cfg0.N, win0_2.index t = ![t.val / 256, t.val / 64 % 4, 0] :=
  (by decide +kernel : ∀ t : Fin grid0.N, _)

/-- The image and the sample of lane `p` of a point's blocks. -/
def img (n : ℕ) : Fin 4 := ⟨n / 256 % 4, Nat.mod_lt _ (by norm_num)⟩
/-- The number of point `p` of block `b`. -/
def smp (b : ℕ) (p : Fin 512) : Fin 32768 := ⟨(512 * b + p.val) % 32768, Nat.mod_lt _ (by norm_num)⟩

/-- An entry of the block of the grid. -/
theorem blk0_0_at (c : Dev nD) (t : Fin cfg0.N) (p : Fin 512) (q : Fin 3) :
    blk0 V c 0 t (ix3 0 p q) = gridA V c (ix3 (img t.val) (smp (t.val % 64) p) q) := by
  have e := index0_0 t
  have hN : t.val < 1024 := lt_of_lt_of_eq t.isLt (show cfg0.N = 1024 from N_0)
  refine congrArg (gridA V c) (funext fun a => Fin.ext ?_)
  have hp := p.isLt
  match a with
  | ⟨0, _⟩ => show win0_0.index t (0 : Fin 3) * 1 + 1 * 0 = t.val / 256 % 4; rw [e]; show t.val / 256 * 1 + 1 * 0 = _; omega
  | ⟨1, _⟩ =>
    show win0_0.index t (1 : Fin 3) * 512 + 1 * p.val = (512 * (t.val % 64) + p.val) % 32768
    rw [e]; show t.val % 64 * 512 + 1 * p.val = _; omega
  | ⟨2, _⟩ => show win0_0.index t (2 : Fin 3) * 3 + 1 * q.val = q.val; rw [e]; show 0 * 3 + 1 * q.val = _; omega

/-- An entry of the block of the incoming gradient. -/
theorem blk0_1_at (c : Dev nD) (t : Fin cfg0.N) (p : Fin 512) (q : Fin 32) :
    blk0 V c 1 t (ix3 0 p q) = goA V c (ix3 (img t.val) (smp (t.val % 64) p) q) := by
  have e := index0_1 t
  have hN : t.val < 1024 := lt_of_lt_of_eq t.isLt (show cfg0.N = 1024 from N_0)
  refine congrArg (goA V c) (funext fun a => Fin.ext ?_)
  have hp := p.isLt
  match a with
  | ⟨0, _⟩ => show win0_1.index t (0 : Fin 3) * 1 + 1 * 0 = t.val / 256 % 4; rw [e]; show t.val / 256 * 1 + 1 * 0 = _; omega
  | ⟨1, _⟩ =>
    show win0_1.index t (1 : Fin 3) * 512 + 1 * p.val = (512 * (t.val % 64) + p.val) % 32768
    rw [e]; show t.val % 64 * 512 + 1 * p.val = _; omega
  | ⟨2, _⟩ => show win0_1.index t (2 : Fin 3) * 32 + 1 * q.val = q.val; rw [e]; show 0 * 32 + 1 * q.val = _; omega

/-- The chunk of rows of step `t`. -/
theorem coords0_1 : ∀ t : Fin cfg0.N, (grid0.coords t 1).val = t.val / 64 % 4 :=
  (fun t => Pipeline.Grid.coords_val t 1 (by decide) rfl : ∀ t : Fin grid0.N, (grid0.coords t 1).val = t.val / 64 % 4)

/-- What sample `P` of image `n` adds at row `R` (a (z, y) pair) and lane `l` (an (x, channel) pair). -/
def share0 (c : Dev nD) (n : Fin 4) (R l : ℕ) (P : Fin 32768) : EReal :=
  (tapW (cell (gridA V c (ix3 n P 2))) (frac (gridA V c (ix3 n P 2))) (BitVec.ofNat 32 (R / 64))
    * tapW (cell (gridA V c (ix3 n P 1))) (frac (gridA V c (ix3 n P 1))) (BitVec.ofNat 32 (R % 64)))
  * (tapW (cell (gridA V c (ix3 n P 0))) (frac (gridA V c (ix3 n P 0))) (BitVec.ofNat 32 (l / 32))
    * goA V c (ix3 n P ⟨l % 32, Nat.mod_lt _ (by norm_num)⟩))

/-- One run adds the shares of its 512 samples. -/
theorem run0_at (c : Dev nD) (t : Fin cfg0.N) (acc : Vec Ideal S1x1024x2048 .f32) (r : Fin 1024) (l : Fin 2048) :
    step0 (grid0.coords t) (blk0 V c 0 t) (blk0 V c 1 t) acc (ix3 0 r l)
      = acc (ix3 0 r l) + ∑ p : Fin 512, share0 V c (img t.val) (1024 * (t.val / 64 % 4) + r.val) l.val (smp (t.val % 64) p) := by
  have e1 : (grid0.coords t 1).val = t.val / 64 % 4 := coords0_1 t
  rw [step0_at]
  refine congrArg (_ + ·) (Finset.sum_congr rfl fun p _ => ?_)
  rw [tabA_at _ ⟨t.val / 64 % 4, Nat.mod_lt _ (by norm_num)⟩ e1, tabB_at, blk0_0_at, blk0_0_at, blk0_0_at, blk0_1_at]
  rfl

/-- After a point, its block holds the shares of the samples read so far. -/
theorem accs0_at (c : Dev nD) (r : Fin 1024) (l : Fin 2048) : ∀ (n : ℕ) (h : n < cfg0.N),
    accs0 V c n h (ix3 0 r l) = ∑ b ∈ Finset.range (n % 64 + 1), ∑ p : Fin 512,
      share0 V c (img n) (1024 * (n / 64 % 4) + r.val) l.val (smp b p) := by
  intro n
  induction n with
  | zero =>
    intro h
    rw [accs0_first V c ⟨0, h⟩ rfl, run0_at V c ⟨0, h⟩, zero0_at, zero_add]
    simp only [Nat.zero_mod, Nat.zero_add, Finset.sum_range_one]
  | succ n ih =>
    intro h
    by_cases h0 : (n + 1) % 64 = 0
    · rw [accs0_first V c ⟨n + 1, h⟩ h0, run0_at V c ⟨n + 1, h⟩, zero0_at, zero_add]
      simp only [h0, Nat.zero_add, Finset.sum_range_one]
    · rw [accs0_later V c ⟨n + 1, h⟩ h0, run0_at V c ⟨n + 1, h⟩]
      have hp : n < cfg0.N := by omega
      have e := ih hp
      refine (congrArg (· + _) e).trans ?_
      have hi : img n = img (n + 1) := Fin.ext (by show n / 256 % 4 = (n + 1) / 256 % 4; omega)
      have hq : n / 64 % 4 = (n + 1) / 64 % 4 := by omega
      have hm : (n + 1) % 64 = n % 64 + 1 := by omega
      rw [hi, hq, hm, Finset.sum_range_succ _ (n % 64 + 1)]

/-- Every element of the array, after the call. -/
def total0 (c : Dev nD) : S4x4096x2048.Idx → EReal := fun i => ∑ P : Fin 32768, share0 V c (i 0) (i 1).val (i 2).val P

/-- What a block's last point writes back. -/
theorem flushed0_eq (c : Dev nD) (t : Fin cfg0.N) (hf : (cfg0.win 2).flush t = true) :
    (dat0 V c).flushed 2 t = ((cfg0.win 2).blk t).view.read (Elt Ideal) (total0 V c) := by
  show (cfg0.win 2).cut (grid0.coords t) ((dat0 V c).after 2 t) = _
  rw [dat0_after2]
  have hN : t.val < 1024 := lt_of_lt_of_eq t.isLt (show cfg0.N = 1024 from N_0)
  have hm : t.val % 64 = 63 := (flush0_2 t).mp hf
  have e := index0_2 t
  funext y
  have h0 : (y 0).val < 1 := (y 0).isLt
  have h1 : (y 1).val < 1024 := (y 1).isLt
  have h2 : (y 2).val < 2048 := (y 2).isLt
  have hy : (cfg0.win 2).xinj (grid0.coords t) y = ix3 (0 : Fin 1) (⟨(y 1).val, h1⟩ : Fin 1024) (⟨(y 2).val, h2⟩ : Fin 2048) := by
    funext a; apply Fin.ext
    match a with
    | ⟨0, _⟩ => show (y 0).val = 0; omega
    | ⟨1, _⟩ => rfl
    | ⟨2, _⟩ => rfl
  have hl : ∀ A : Vec Ideal S1x1024x2048 .f32, (cfg0.win 2).cut (grid0.coords t) A y = A ((cfg0.win 2).xinj (grid0.coords t) y) := fun _ => rfl
  have hr : ∀ G : S4x4096x2048.Idx → EReal, ((cfg0.win 2).blk t).view.read (Elt Ideal) G y = G (((cfg0.win 2).blk t).view.emb y) := fun _ => rfl
  refine (hl _).trans (Eq.trans ?_ (hr _).symm)
  refine (congrArg (accs0 V c t.val t.isLt) hy).trans ?_
  refine (accs0_at V c _ _ t.val t.isLt).trans ?_
  rw [hm]
  refine (sum_samples (share0 V c (img t.val) (1024 * (t.val / 64 % 4) + (y 1).val) (y 2).val)).trans ?_
  have hb0 : ((cfg0.win 2).blk t).view.emb y 0 = img t.val := Fin.ext (by
    show win0_2.index t (0 : Fin 3) * 1 + 1 * (y 0).val = t.val / 256 % 4
    rw [e]; show t.val / 256 * 1 + 1 * (y 0).val = _; omega)
  have hb1 : (((cfg0.win 2).blk t).view.emb y 1).val = 1024 * (t.val / 64 % 4) + (y 1).val := by
    show win0_2.index t (1 : Fin 3) * 1024 + 1 * (y 1).val = _
    rw [e]; show t.val / 64 % 4 * 1024 + 1 * (y 1).val = _; omega
  have hb2 : (((cfg0.win 2).blk t).view.emb y 2).val = (y 2).val := by
    show win0_2.index t (2 : Fin 3) * 2048 + 1 * (y 2).val = _
    rw [e]; show 0 * 2048 + 1 * (y 2).val = _; omega
  show _ = ∑ P : Fin 32768, share0 V c (((cfg0.win 2).blk t).view.emb y 0) (((cfg0.win 2).blk t).view.emb y 1).val (((cfg0.win 2).blk t).view.emb y 2).val P
  rw [hb0, hb1, hb2]

/-- An index of the array is in a point's block exactly when each coordinate is in the block's range. -/
theorem mem_blk0 (t : Fin cfg0.N) (i : S4x4096x2048.Idx) :
    i ∈ ((cfg0.win 2).blk t).view.set ↔ ∀ a : Fin 3, win0_2.index t a * S1x1024x2048.size a ≤ (i a).val ∧ (i a).val < win0_2.index t a * S1x1024x2048.size a + S1x1024x2048.size a := by
  show i ∈ ((View.whole main_call0_v6).slice (win0_2.rect t)).set ↔ _
  rw [View.set_slice_whole, Rect.mem_set_unit]
  exact Iff.rfl

/-- Every element of the array is in some block that is written back. -/
theorem covered0 (i : S4x4096x2048.Idx) : ∃ t : Fin cfg0.N, (cfg0.win 2).flush t = true ∧ i ∈ ((cfg0.win 2).blk t).view.set := by
  have h0 : (i 0).val < 4 := (i 0).isLt
  have h1 : (i 1).val < 4096 := (i 1).isLt
  have h2 : (i 2).val < 2048 := (i 2).isLt
  have hN : cfg0.N = 1024 := N_0
  refine ⟨⟨256 * (i 0).val + 64 * ((i 1).val / 1024) + 63, by omega⟩, (flush0_2 _).mpr (by dsimp only; omega), ?_⟩
  rw [mem_blk0, index0_2]
  intro a
  match a with
  | ⟨0, _⟩ => show (256 * (i 0).val + 64 * ((i 1).val / 1024) + 63) / 256 * 1 ≤ (i 0).val ∧ (i 0).val < (256 * (i 0).val + 64 * ((i 1).val / 1024) + 63) / 256 * 1 + 1; omega
  | ⟨1, _⟩ => show (256 * (i 0).val + 64 * ((i 1).val / 1024) + 63) / 64 % 4 * 1024 ≤ (i 1).val ∧ (i 1).val < (256 * (i 0).val + 64 * ((i 1).val / 1024) + 63) / 64 % 4 * 1024 + 1024; omega
  | ⟨2, _⟩ => show 0 * 2048 ≤ (i 2).val ∧ (i 2).val < 0 * 2048 + 2048; omega

/-- The array after the call. -/
theorem array0 (c : Dev nD) : (dat0 V c).arrAt 2 cfg0.N = total0 V c :=
  (dat0 V c).arrAt_eq_of_cover 2 _ (fun t hf => flushed0_eq V c t hf) (fun i => covered0 i)

end Cert.KernelIdeal.Launched

end
-- ==== Proof.Read1.lean ====
module

public import proofs.«01_k».proof.Proof.Body1
public import proofs.«01_k».proof.Proof.Read0

/-! # What one run of the second body computes, element by element -/

@[expose] public section

set_option maxRecDepth 16384

noncomputable section

namespace Cert.KernelIdeal.Launched

open Cert.KernelIdeal.Gen
open Idealize.ShloMosaic Cert.Sample

/-- The weights along z and y at voxel row `k` of chunk `a`, -/
theorem wz1_at (i : grid1.Coords) (a : Fin 4) (ha : (i 2).val = a.val) (x0 : Vec Ideal S1x512x3 .f32) (p : Fin 512) (k : Fin 1024) :
    wz1 i x0 (ix2 p k) = tapW (cell (x0 (ix3 0 p 2))) (frac (x0 (ix3 0 p 2))) (BitVec.ofNat 32 ((1024 * a.val + k.val) / 64)) := by
  have hl := lane_word a k
  have hlt : 1024 * a.val + k.val < 4096 := by have := a.isLt; have := k.isLt; omega
  have hd := fdiv64 ⟨_, hlt⟩
  dsimp only at hd
  pointwise [wz1, k1_pay37, k1_pay35, k1_pay28, k1_pay31, k1_pay32, k1_pay33, k1_pay34, k1_pay19, k1_pay20, k1_pay21, k1_pay22, k1_pay23, k1_pay24, k1_pay25]
  rw [ha, hl]
  unfold fdiv at hd
  simp only [hd, select_eq]
  rfl

/-- An entry of the table of weights along `y`. -/
theorem wy1_at (i : grid1.Coords) (a : Fin 4) (ha : (i 2).val = a.val) (x0 : Vec Ideal S1x512x3 .f32) (p : Fin 512) (k : Fin 1024) :
    wy1 i x0 (ix2 p k) = tapW (cell (x0 (ix3 0 p 1))) (frac (x0 (ix3 0 p 1))) (BitVec.ofNat 32 ((1024 * a.val + k.val) % 64)) := by
  have hl := lane_word a k
  have hlt : 1024 * a.val + k.val < 4096 := by have := a.isLt; have := k.isLt; omega
  have hm := fmod64 ⟨_, hlt⟩
  dsimp only at hm
  pointwise [wy1, k1_pay39, k1_pay27, k1_pay30, k1_pay36, k1_pay38, k1_pay32, k1_pay19, k1_pay20, k1_pay21, k1_pay22, k1_pay23, k1_pay24, k1_pay25]
  rw [ha, hl]
  unfold fmod Sample.guard at hm
  simp only [hm, select_eq]
  rfl

/-- and their derivatives. -/
theorem dz1_at (i : grid1.Coords) (a : Fin 4) (ha : (i 2).val = a.val) (x0 : Vec Ideal S1x512x3 .f32) (p : Fin 512) (k : Fin 1024) :
    dz1 i x0 (ix2 p k) = tapD (cell (x0 (ix3 0 p 2))) (BitVec.ofNat 32 ((1024 * a.val + k.val) / 64)) := by
  have hl := lane_word a k
  have hlt : 1024 * a.val + k.val < 4096 := by have := a.isLt; have := k.isLt; omega
  have hd := fdiv64 ⟨_, hlt⟩
  dsimp only at hd
  pointwise [dz1, k1_pay40, k1_pay31, k1_pay35, k1_pay32, k1_pay33, k1_pay34, k1_pay19, k1_pay20, k1_pay21, k1_pay22, k1_pay23, k1_pay24, k1_pay25]
  rw [ha, hl]
  unfold fdiv at hd
  simp only [hd, select_eq]
  rfl

/-- An entry of the table of derivative weights along `y`. -/
theorem dy1_at (i : grid1.Coords) (a : Fin 4) (ha : (i 2).val = a.val) (x0 : Vec Ideal S1x512x3 .f32) (p : Fin 512) (k : Fin 1024) :
    dy1 i x0 (ix2 p k) = tapD (cell (x0 (ix3 0 p 1))) (BitVec.ofNat 32 ((1024 * a.val + k.val) % 64)) := by
  have hl := lane_word a k
  have hlt : 1024 * a.val + k.val < 4096 := by have := a.isLt; have := k.isLt; omega
  have hm := fmod64 ⟨_, hlt⟩
  dsimp only at hm
  pointwise [dy1, k1_pay41, k1_pay30, k1_pay36, k1_pay32, k1_pay19, k1_pay20, k1_pay21, k1_pay22, k1_pay23, k1_pay24, k1_pay25]
  rw [ha, hl]
  unfold fmod Sample.guard at hm
  simp only [hm, select_eq]
  rfl

/-- The weight along x times the incoming gradient. -/
theorem kx1_at (x0 : Vec Ideal S1x512x3 .f32) (x1 : Vec Ideal S1x512x32 .f32) (p : Fin 512) (l : Fin 2048) :
    kx1 x0 x1 (ix2 p l) = tapW (cell (x0 (ix3 0 p 0))) (frac (x0 (ix3 0 p 0))) (BitVec.ofNat 32 (l.val / 32))
      * x1 (ix3 0 p ⟨l.val % 32, Nat.mod_lt _ (by norm_num)⟩) := by
  have hd := fdiv32 l
  have hs := sum_one_hot (fun x => x1 (ix3 0 p x)) l
  pointwise [kx1, k1_pay14, k1_pay10, k1_pay11, k1_pay12, k1_pay13, k1_pay9, k1_pay26, k1_pay29, k1_pay19, k1_pay20, k1_pay21, k1_pay22, k1_pay23, k1_pay24, k1_pay25]
  unfold fdiv at hd
  unfold fmod Sample.guard at hs
  rw [hs]
  simp only [hd, select_eq]
  rfl

/-- An entry of the `x` result from the first accumulator. -/
theorem outX_at (x0 : Vec Ideal S1x512x3 .f32) (x1 : Vec Ideal S1x512x32 .f32) (u : Vec Ideal S512x2048 .f32) (p : Fin 512) :
    outX x0 x1 u (ix3 0 p 0) = (∑ l : Fin 2048, u (ix2 p l) * (tapD (cell (x0 (ix3 0 p 0))) (BitVec.ofNat 32 (l.val / 32))
      * x1 (ix3 0 p ⟨l.val % 32, Nat.mod_lt _ (by norm_num)⟩))) * Ideal.ofBits .f32 0x41FC0000#32 := by
  have hd := fdiv32
  have hs := fun l => sum_one_hot (fun x => x1 (ix3 0 p x)) l
  pointwise [outX, k1_pay16, k1_pay15, k1_pay9, k1_pay29, k1_pay19, k1_pay20, k1_pay21, k1_pay22, k1_pay23, k1_pay24, k1_pay25]
  unfold fdiv at hd
  unfold fmod Sample.guard at hs
  simp only [hs]
  simp only [hd, select_eq]
  rfl

/-- The components along y and z. -/
theorem outY_at (x0 : Vec Ideal S1x512x3 .f32) (x1 : Vec Ideal S1x512x32 .f32) (u : Vec Ideal S512x2048 .f32) (p : Fin 512) :
    outY x0 x1 u (ix3 0 p 0) = (∑ l : Fin 2048, u (ix2 p l) * (tapW (cell (x0 (ix3 0 p 0))) (frac (x0 (ix3 0 p 0))) (BitVec.ofNat 32 (l.val / 32))
      * x1 (ix3 0 p ⟨l.val % 32, Nat.mod_lt _ (by norm_num)⟩))) * Ideal.ofBits .f32 0x41FC0000#32 := by
  have h := fun l => kx1_at x0 x1 p l
  pointwise [outY, k1_pay17]
  simp only [h]

/-- An entry of the `z` result from the third accumulator. -/
theorem outZ_at (x0 : Vec Ideal S1x512x3 .f32) (x1 : Vec Ideal S1x512x32 .f32) (u : Vec Ideal S512x2048 .f32) (p : Fin 512) :
    outZ x0 x1 u (ix3 0 p 0) = (∑ l : Fin 2048, u (ix2 p l) * (tapW (cell (x0 (ix3 0 p 0))) (frac (x0 (ix3 0 p 0))) (BitVec.ofNat 32 (l.val / 32))
      * x1 (ix3 0 p ⟨l.val % 32, Nat.mod_lt _ (by norm_num)⟩))) * Ideal.ofBits .f32 0x41FC0000#32 := by
  have h := fun l => kx1_at x0 x1 p l
  pointwise [outZ, k1_pay8, k1_pay18]
  simp only [h]

/-- One run adds to each accumulator the product of a table of weights and the chunk of the input. -/
theorem acc0_at (i : grid1.Coords) (x0 : Vec Ideal S1x512x3 .f32) (x2 : Vec Ideal S1x1024x2048 .bf16) (u : Vec Ideal S512x2048 .f32) (p : Fin 512) (l : Fin 2048) :
    acc0 i x0 x2 u (ix2 p l) = u (ix2 p l) + ∑ r : Fin 1024, wz1 i x0 (ix2 p r) * wy1 i x0 (ix2 p r) * x2 (ix3 0 r l) := by
  pointwise [acc0, k1_pay5, k1_pay4, k1_pay42]

/-- An entry of the second accumulator after a step. -/
theorem acc1_at (i : grid1.Coords) (x0 : Vec Ideal S1x512x3 .f32) (x2 : Vec Ideal S1x1024x2048 .bf16) (u : Vec Ideal S512x2048 .f32) (p : Fin 512) (l : Fin 2048) :
    acc1 i x0 x2 u (ix2 p l) = u (ix2 p l) + ∑ r : Fin 1024, wz1 i x0 (ix2 p r) * dy1 i x0 (ix2 p r) * x2 (ix3 0 r l) := by
  pointwise [acc1, k1_pay6, k1_pay4, k1_pay42]

/-- An entry of the third accumulator after a step. -/
theorem acc2_at (i : grid1.Coords) (x0 : Vec Ideal S1x512x3 .f32) (x2 : Vec Ideal S1x1024x2048 .bf16) (u : Vec Ideal S512x2048 .f32) (p : Fin 512) (l : Fin 2048) :
    acc2 i x0 x2 u (ix2 p l) = u (ix2 p l) + ∑ r : Fin 1024, dz1 i x0 (ix2 p r) * wy1 i x0 (ix2 p r) * x2 (ix3 0 r l) := by
  pointwise [acc2, k1_pay7, k1_pay4, k1_pay42]
  refine congrArg (_ + ·) (Finset.sum_congr rfl fun r _ => ?_)
  have e : (⟨1024 + p.val - 512 - 512, by have := p.isLt; omega⟩ : Fin 512) = p := Fin.ext (by show 1024 + p.val - 512 - 512 = p.val; omega)
  rw [dif_neg (by omega), dif_neg (by omega), e]

/-- The accumulators start from zeros. -/
theorem zero1_at (p : Fin 512) (l : Fin 2048) :
    k1_pay1 (F := Ideal) (ix2 p l) = 0 ∧ k1_pay2 (F := Ideal) (ix2 p l) = 0 ∧ k1_pay3 (F := Ideal) (ix2 p l) = 0 := by
  refine ⟨?_, ?_, ?_⟩
  · pointwise [k1_pay1]
  · pointwise [k1_pay2]
  · pointwise [k1_pay3]

end Cert.KernelIdeal.Launched

end
-- ==== Proof.Array1.lean ====
module

public import proofs.«01_k».proof.Proof.Region1
public import proofs.«01_k».proof.Proof.Array0
public import proofs.«01_k».proof.Proof.Read1

/-! # What the second call leaves in its three arrays

Four runs in a row share a block of samples and read the four chunks of the image; each accumulator then holds,
for a sample and a lane, the sum over all voxel rows of a table of weights times the input. The last run
contracts it with the table along x. -/

@[expose] public section

set_option maxRecDepth 16384

noncomputable section

namespace Cert.KernelIdeal.Launched

open Cert.KernelIdeal.Gen
open Idealize.ShloMosaic Idealize.ShloMosaic.TcCoe Cert.Sample
open Idealize.SL.Sem
open Idealize.ShloMosaic.Pipeline (Dat Cfg Window)

/-- A voxel row of chunk `b`. -/
def row (b : ℕ) (r : Fin 1024) : Fin 4096 := ⟨(1024 * b + r.val) % 4096, Nat.mod_lt _ (by norm_num)⟩

/-- A sum over the 4096 voxel rows, 4 chunks of 1024 at a time. -/
theorem sum_rows (f : Fin 4096 → EReal) :
    (∑ b ∈ Finset.range 4, ∑ r : Fin 1024, f (row b r)) = ∑ R : Fin 4096, f R := by
  rw [Finset.sum_range, ← Fintype.sum_prod_type' (fun (b : Fin 4) (r : Fin 1024) => f (row b.val r))]
  refine Fintype.sum_equiv (finProdFinEquiv (m := 4) (n := 1024)) _ _ fun x => congrArg f (Fin.ext ?_)
  have h1 := x.1.isLt
  have h2 := x.2.isLt
  show (1024 * x.1.val + x.2.val) % 4096 = x.2.val + 1024 * x.1.val
  omega

variable (V : (c : Dev nD) → Valuation τ sig (Elt Ideal))

/-- The input as the call reads it: a row per (z, y) pair, a lane per (x, channel) pair. -/
def inpA (c : Dev nD) : S4x4096x2048.Idx → EReal := V c (Proc.devRef .tc main_call0_v5)

/-- The weights along one axis of sample `P` of image `n` (0, 1, 2 for x, y, z) at position `w`, and their derivatives. -/
def wgt (c : Dev nD) (n : Fin 4) (P : Fin 32768) (q : Fin 3) (w : ℕ) : EReal :=
  tapW (cell (gridA V c (ix3 n P q))) (frac (gridA V c (ix3 n P q))) (BitVec.ofNat 32 w)
/-- The derivative weight of position `w` for a sample's coordinate `q`. -/
def der (c : Dev nD) (n : Fin 4) (P : Fin 32768) (q : Fin 3) (w : ℕ) : EReal :=
  tapD (cell (gridA V c (ix3 n P q))) (BitVec.ofNat 32 w)

/-- The block of the grid that step `t` reads: image and block of points. -/
theorem index1_0 : ∀ t : Fin cfg1.N, win1_0.index t = ![t.val / 256, t.val / 4 % 64, 0] :=
  (by decide +kernel : ∀ t : Fin grid1.N, _)
/-- The block of the incoming gradient that step `t` reads. -/
theorem index1_1 : ∀ t : Fin cfg1.N, win1_1.index t = ![t.val / 256, t.val / 4 % 64, 0] :=
  (by decide +kernel : ∀ t : Fin grid1.N, _)
/-- The block of the input that step `t` reads: image and chunk of rows. -/
theorem index1_2 : ∀ t : Fin cfg1.N, win1_2.index t = ![t.val / 256, t.val % 4, 0] :=
  (by decide +kernel : ∀ t : Fin grid1.N, _)
/-- The block of the `x` result that step `t` writes. -/
theorem index1_3 : ∀ t : Fin cfg1.N, win1_3.index t = ![t.val / 256, t.val / 4 % 64, 0] :=
  (by decide +kernel : ∀ t : Fin grid1.N, _)
/-- The block of the `y` result that step `t` writes. -/
theorem index1_4 : ∀ t : Fin cfg1.N, win1_4.index t = ![t.val / 256, t.val / 4 % 64, 0] :=
  (by decide +kernel : ∀ t : Fin grid1.N, _)
/-- The block of the `z` result that step `t` writes. -/
theorem index1_5 : ∀ t : Fin cfg1.N, win1_5.index t = ![t.val / 256, t.val / 4 % 64, 0] :=
  (by decide +kernel : ∀ t : Fin grid1.N, _)

/-- An entry of the block of the grid. -/
theorem blk1_0_at (c : Dev nD) (t : Fin cfg1.N) (p : Fin 512) (q : Fin 3) :
    blk1 V c 0 t (ix3 0 p q) = gridA V c (ix3 (img t.val) (smp (t.val / 4 % 64) p) q) := by
  have e := index1_0 t
  have hN : t.val < 1024 := lt_of_lt_of_eq t.isLt (show cfg1.N = 1024 from N_1)
  refine congrArg (gridA V c) (funext fun a => Fin.ext ?_)
  have hp := p.isLt
  match a with
  | ⟨0, _⟩ => show win1_0.index t (0 : Fin 3) * 1 + 1 * 0 = t.val / 256 % 4; rw [e]; show t.val / 256 * 1 + 1 * 0 = _; omega
  | ⟨1, _⟩ =>
    show win1_0.index t (1 : Fin 3) * 512 + 1 * p.val = (512 * (t.val / 4 % 64) + p.val) % 32768
    rw [e]; show t.val / 4 % 64 * 512 + 1 * p.val = _; omega
  | ⟨2, _⟩ => show win1_0.index t (2 : Fin 3) * 3 + 1 * q.val = q.val; rw [e]; show 0 * 3 + 1 * q.val = _; omega

/-- An entry of the block of the incoming gradient. -/
theorem blk1_1_at (c : Dev nD) (t : Fin cfg1.N) (p : Fin 512) (q : Fin 32) :
    blk1 V c 1 t (ix3 0 p q) = goA V c (ix3 (img t.val) (smp (t.val / 4 % 64) p) q) := by
  have e := index1_1 t
  have hN : t.val < 1024 := lt_of_lt_of_eq t.isLt (show cfg1.N = 1024 from N_1)
  refine congrArg (goA V c) (funext fun a => Fin.ext ?_)
  have hp := p.isLt
  match a with
  | ⟨0, _⟩ => show win1_1.index t (0 : Fin 3) * 1 + 1 * 0 = t.val / 256 % 4; rw [e]; show t.val / 256 * 1 + 1 * 0 = _; omega
  | ⟨1, _⟩ =>
    show win1_1.index t (1 : Fin 3) * 512 + 1 * p.val = (512 * (t.val / 4 % 64) + p.val) % 32768
    rw [e]; show t.val / 4 % 64 * 512 + 1 * p.val = _; omega
  | ⟨2, _⟩ => show win1_1.index t (2 : Fin 3) * 32 + 1 * q.val = q.val; rw [e]; show 0 * 32 + 1 * q.val = _; omega

/-- An entry of the block of the input. -/
theorem blk1_2_at (c : Dev nD) (t : Fin cfg1.N) (r : Fin 1024) (l : Fin 2048) :
    blk1 V c 2 t (ix3 0 r l) = inpA V c (ix3 (img t.val) (row (t.val % 4) r) l) := by
  have e := index1_2 t
  have hN : t.val < 1024 := lt_of_lt_of_eq t.isLt (show cfg1.N = 1024 from N_1)
  refine congrArg (inpA V c) (funext fun a => Fin.ext ?_)
  have hp := r.isLt
  match a with
  | ⟨0, _⟩ => show win1_2.index t (0 : Fin 3) * 1 + 1 * 0 = t.val / 256 % 4; rw [e]; show t.val / 256 * 1 + 1 * 0 = _; omega
  | ⟨1, _⟩ =>
    show win1_2.index t (1 : Fin 3) * 1024 + 1 * r.val = (1024 * (t.val % 4) + r.val) % 4096
    rw [e]; show t.val % 4 * 1024 + 1 * r.val = _; omega
  | ⟨2, _⟩ => show win1_2.index t (2 : Fin 3) * 2048 + 1 * l.val = l.val; rw [e]; show 0 * 2048 + 1 * l.val = _; omega

/-- The chunk of rows of step `t`. -/
theorem coords1_2 : ∀ t : Fin cfg1.N, (grid1.coords t 2).val = t.val % 4 := by
  have h : ∀ t : Fin grid1.N, (grid1.coords t 2).val = t.val / 1 % 4 := fun t => Pipeline.Grid.coords_val t 2 (by decide) rfl
  intro t
  exact (h t).trans (by rw [Nat.div_one])

/-- The table of weights over the voxel rows: weights along z (`fz`) times along y (`fy`). -/
def tab (fz fy : Fin 4 → Fin 32768 → Fin 3 → ℕ → EReal) (n : Fin 4) (P : Fin 32768) (R : Fin 4096) : EReal :=
  fz n P 2 (R.val / 64) * fy n P 1 (R.val % 64)

/-- What the accumulators of sample `P` hold at lane `l` when the rows of the first `b` chunks are in. -/
def part (c : Dev nD) (fz fy : Fin 4 → Fin 32768 → Fin 3 → ℕ → EReal) (n : Fin 4) (P : Fin 32768) (l : Fin 2048) (b : ℕ) : EReal :=
  ∑ a ∈ Finset.range b, ∑ r : Fin 1024, tab fz fy n P (row a r) * inpA V c (ix3 n (row a r) l)

/-- The four tables of one run, at the rows of the point's chunk. -/
theorem tables1 (c : Dev nD) (t : Fin cfg1.N) (p : Fin 512) (r : Fin 1024) :
    wz1 (grid1.coords t) (blk1 V c 0 t) (ix2 p r) = wgt V c (img t.val) (smp (t.val / 4 % 64) p) 2 ((row (t.val % 4) r).val / 64)
    ∧ wy1 (grid1.coords t) (blk1 V c 0 t) (ix2 p r) = wgt V c (img t.val) (smp (t.val / 4 % 64) p) 1 ((row (t.val % 4) r).val % 64)
    ∧ dz1 (grid1.coords t) (blk1 V c 0 t) (ix2 p r) = der V c (img t.val) (smp (t.val / 4 % 64) p) 2 ((row (t.val % 4) r).val / 64)
    ∧ dy1 (grid1.coords t) (blk1 V c 0 t) (ix2 p r) = der V c (img t.val) (smp (t.val / 4 % 64) p) 1 ((row (t.val % 4) r).val % 64) := by
  have e := coords1_2 t
  have hr : (row (t.val % 4) r).val = 1024 * (t.val % 4) + r.val := by
    have := r.isLt
    show (1024 * (t.val % 4) + r.val) % 4096 = _
    omega
  rw [wz1_at _ ⟨t.val % 4, Nat.mod_lt _ (by norm_num)⟩ e, wy1_at _ ⟨t.val % 4, Nat.mod_lt _ (by norm_num)⟩ e,
    dz1_at _ ⟨t.val % 4, Nat.mod_lt _ (by norm_num)⟩ e, dy1_at _ ⟨t.val % 4, Nat.mod_lt _ (by norm_num)⟩ e,
    blk1_0_at, blk1_0_at, hr]
  exact ⟨rfl, rfl, rfl, rfl⟩

/-- One run adds the rows of its chunk to the three accumulators. -/
theorem next1_at (c : Dev nD) (t : Fin cfg1.N) (a : Accs Ideal) (p : Fin 512) (l : Fin 2048) :
    (a.next (grid1.coords t) (blk1 V c 0 t) (blk1 V c 2 t)).u0 (ix2 p l) = a.u0 (ix2 p l)
      + ∑ r : Fin 1024, tab (wgt V c) (wgt V c) (img t.val) (smp (t.val / 4 % 64) p) (row (t.val % 4) r) * inpA V c (ix3 (img t.val) (row (t.val % 4) r) l)
    ∧ (a.next (grid1.coords t) (blk1 V c 0 t) (blk1 V c 2 t)).u1 (ix2 p l) = a.u1 (ix2 p l)
      + ∑ r : Fin 1024, tab (wgt V c) (der V c) (img t.val) (smp (t.val / 4 % 64) p) (row (t.val % 4) r) * inpA V c (ix3 (img t.val) (row (t.val % 4) r) l)
    ∧ (a.next (grid1.coords t) (blk1 V c 0 t) (blk1 V c 2 t)).u2 (ix2 p l) = a.u2 (ix2 p l)
      + ∑ r : Fin 1024, tab (der V c) (wgt V c) (img t.val) (smp (t.val / 4 % 64) p) (row (t.val % 4) r) * inpA V c (ix3 (img t.val) (row (t.val % 4) r) l) := by
  have h := tables1 V c t p
  unfold Accs.next
  dsimp only
  rw [acc0_at, acc1_at, acc2_at]
  refine ⟨congrArg (_ + ·) (Finset.sum_congr rfl fun r _ => ?_), congrArg (_ + ·) (Finset.sum_congr rfl fun r _ => ?_),
    congrArg (_ + ·) (Finset.sum_congr rfl fun r _ => ?_)⟩
  · rw [(h r).1, (h r).2.1, blk1_2_at]; rfl
  · rw [(h r).1, (h r).2.2.2, blk1_2_at]; rfl
  · rw [(h r).2.2.1, (h r).2.1, blk1_2_at]; rfl

/-- After a point, the accumulators hold the chunks read so far. -/
theorem accs1_at (c : Dev nD) (p : Fin 512) (l : Fin 2048) : ∀ (n : ℕ) (h : n < cfg1.N),
    (accs1 V c n h).u0 (ix2 p l) = part V c (wgt V c) (wgt V c) (img n) (smp (n / 4 % 64) p) l (n % 4 + 1)
    ∧ (accs1 V c n h).u1 (ix2 p l) = part V c (wgt V c) (der V c) (img n) (smp (n / 4 % 64) p) l (n % 4 + 1)
    ∧ (accs1 V c n h).u2 (ix2 p l) = part V c (der V c) (wgt V c) (img n) (smp (n / 4 % 64) p) l (n % 4 + 1) := by
  have first : ∀ t : Fin cfg1.N, t.val % 4 = 0 → _ := fun t h0 => by
    have z := zero1_at p l
    have e := next1_at V c t Accs.zero p l
    rw [← accs1_first V c t h0] at e
    unfold Accs.zero at e
    dsimp only at e
    rw [z.1, z.2.1, z.2.2, zero_add, zero_add, zero_add] at e
    exact e
  intro n
  induction n with
  | zero =>
    intro h
    have e := first ⟨0, h⟩ rfl
    simp only [part, Nat.zero_mod, Nat.zero_add, Finset.sum_range_one]
    exact e
  | succ n ih =>
    intro h
    by_cases h0 : (n + 1) % 4 = 0
    · have e := first ⟨n + 1, h⟩ h0
      dsimp only at e
      simp only [part, h0, Nat.zero_add, Finset.sum_range_one] at e ⊢
      exact e
    · have e := next1_at V c ⟨n + 1, h⟩ (accs1 V c n (by omega)) p l
      have hi : img n = img (n + 1) := Fin.ext (by show n / 256 % 4 = (n + 1) / 256 % 4; omega)
      have hq : n / 4 % 64 = (n + 1) / 4 % 64 := by omega
      have hm : (n + 1) % 4 = n % 4 + 1 := by omega
      have i := ih (by omega)
      rw [accs1_later V c ⟨n + 1, h⟩ h0]
      refine ⟨e.1.trans ((congrArg (· + _) i.1).trans ?_), e.2.1.trans ((congrArg (· + _) i.2.1).trans ?_),
        e.2.2.trans ((congrArg (· + _) i.2.2).trans ?_)⟩ <;>
      · dsimp only
        rw [hi, hq, hm]
        unfold part
        rw [Finset.sum_range_succ _ (n % 4 + 1)]

/-- One component of the gradient at a sample: the table over the voxel rows against the input, and the result against
    the table along x and the incoming gradient. -/
def comp1 (c : Dev nD) (fz fy fx : Fin 4 → Fin 32768 → Fin 3 → ℕ → EReal) : S4x32768x1.Idx → EReal := fun i =>
  (∑ l : Fin 2048, (∑ R : Fin 4096, tab fz fy (i 0) (i 1) R * inpA V c (ix3 (i 0) R l))
    * (fx (i 0) (i 1) 0 (l.val / 32) * goA V c (ix3 (i 0) (i 1) ⟨l.val % 32, Nat.mod_lt _ (by norm_num)⟩))) * Ideal.ofBits .f32 0x41FC0000#32

/-- The four chunks together are the sum over all rows. -/
theorem part_all (c : Dev nD) (fz fy : Fin 4 → Fin 32768 → Fin 3 → ℕ → EReal) (n : Fin 4) (P : Fin 32768) (l : Fin 2048) :
    part V c fz fy n P l 4 = ∑ R : Fin 4096, tab fz fy n P R * inpA V c (ix3 n R l) :=
  sum_rows (fun R => tab fz fy n P R * inpA V c (ix3 n R l))

/-- What the last of four points computes, sample by sample. -/
theorem outs1_at (c : Dev nD) (t : Fin cfg1.N) (hm : t.val % 4 = 3) (p : Fin 512) :
    outX (blk1 V c 0 t) (blk1 V c 1 t) (accs1 V c t.val t.isLt).u0 (ix3 0 p 0)
      = comp1 V c (wgt V c) (wgt V c) (der V c) (ix3 (img t.val) (smp (t.val / 4 % 64) p) 0)
    ∧ outY (blk1 V c 0 t) (blk1 V c 1 t) (accs1 V c t.val t.isLt).u1 (ix3 0 p 0)
      = comp1 V c (wgt V c) (der V c) (wgt V c) (ix3 (img t.val) (smp (t.val / 4 % 64) p) 0)
    ∧ outZ (blk1 V c 0 t) (blk1 V c 1 t) (accs1 V c t.val t.isLt).u2 (ix3 0 p 0)
      = comp1 V c (der V c) (wgt V c) (wgt V c) (ix3 (img t.val) (smp (t.val / 4 % 64) p) 0) := by
  have h := fun l => accs1_at V c p l t.val t.isLt
  rw [hm] at h
  rw [outX_at, outY_at, outZ_at]
  unfold comp1
  refine ⟨congrArg (· * _) (Finset.sum_congr rfl fun l _ => ?_), congrArg (· * _) (Finset.sum_congr rfl fun l _ => ?_),
    congrArg (· * _) (Finset.sum_congr rfl fun l _ => ?_)⟩
  · rw [(h l).1, part_all, blk1_0_at, blk1_1_at]; rfl
  · rw [(h l).2.1, part_all, blk1_0_at, blk1_1_at]; rfl
  · rw [(h l).2.2, part_all, blk1_0_at, blk1_1_at]; rfl

/-- An element of a block of 512 samples, and its place in the array. -/
theorem block_idx (y : S1x512x1.Idx) : y = ix3 (0 : Fin 1) (⟨(y 1).val, (y 1).isLt⟩ : Fin 512) (0 : Fin 1) := by
  have h0 : (y 0).val < 1 := (y 0).isLt
  have h2 : (y 2).val < 1 := (y 2).isLt
  funext a; apply Fin.ext
  match a with
  | ⟨0, _⟩ => show (y 0).val = 0; omega
  | ⟨1, _⟩ => rfl
  | ⟨2, _⟩ => show (y 2).val = 0; omega

/-- A block index of the three outputs places sample `y 1` of the block at the sample read by the point. -/
theorem place1 (t : Fin cfg1.N) (k : Fin 3 → ℕ) (hk : k = ![t.val / 256, t.val / 4 % 64, 0]) (y : S1x512x1.Idx) (j : S4x32768x1.Idx)
    (h : ∀ a : Fin 3, (j a).val = k a * S1x512x1.size a + 1 * (y a).val) :
    j = ix3 (img t.val) (smp (t.val / 4 % 64) ⟨(y 1).val, (y 1).isLt⟩) (0 : Fin 1) := by
  have hN : t.val < 1024 := lt_of_lt_of_eq t.isLt (show cfg1.N = 1024 from N_1)
  have h0 : (y 0).val < 1 := (y 0).isLt
  have h1 : (y 1).val < 512 := (y 1).isLt
  have h2 : (y 2).val < 1 := (y 2).isLt
  subst hk
  funext a; apply Fin.ext
  match a with
  | ⟨0, _⟩ => exact (h 0).trans (by show t.val / 256 * 1 + 1 * (y 0).val = t.val / 256 % 4; omega)
  | ⟨1, _⟩ => exact (h 1).trans (by show t.val / 4 % 64 * 512 + 1 * (y 1).val = (512 * (t.val / 4 % 64) + (y 1).val) % 32768; omega)
  | ⟨2, _⟩ => exact (h 2).trans (by show 0 * 1 + 1 * (y 2).val = 0; omega)

/-- The last of the four points that share the block of an element. -/
theorem point1 (i : S4x32768x1.Idx) : ∃ t : Fin cfg1.N, t.val % 4 = 3 ∧ ∀ a : Fin 3,
    (![t.val / 256, t.val / 4 % 64, 0] : Fin 3 → ℕ) a * S1x512x1.size a ≤ (i a).val
      ∧ (i a).val < (![t.val / 256, t.val / 4 % 64, 0] : Fin 3 → ℕ) a * S1x512x1.size a + S1x512x1.size a := by
  have h0 : (i 0).val < 4 := (i 0).isLt
  have h1 : (i 1).val < 32768 := (i 1).isLt
  have h2 : (i 2).val < 1 := (i 2).isLt
  have hN : cfg1.N = 1024 := N_1
  refine ⟨⟨256 * (i 0).val + 4 * ((i 1).val / 512) + 3, by omega⟩, by dsimp only; omega, ?_⟩
  intro a
  match a with
  | ⟨0, _⟩ => show (256 * (i 0).val + 4 * ((i 1).val / 512) + 3) / 256 * 1 ≤ (i 0).val ∧ (i 0).val < (256 * (i 0).val + 4 * ((i 1).val / 512) + 3) / 256 * 1 + 1; omega
  | ⟨1, _⟩ => show (256 * (i 0).val + 4 * ((i 1).val / 512) + 3) / 4 % 64 * 512 ≤ (i 1).val ∧ (i 1).val < (256 * (i 0).val + 4 * ((i 1).val / 512) + 3) / 4 % 64 * 512 + 512; omega
  | ⟨2, _⟩ => show 0 * 1 ≤ (i 2).val ∧ (i 2).val < 0 * 1 + 1; omega

/-- The array of the component along x, after the call. -/
theorem array1_3 (c : Dev nD) : (dat1 V c).arrAt 3 cfg1.N = comp1 V c (wgt V c) (wgt V c) (der V c) := by
  refine (dat1 V c).arrAt_eq_of_cover 3 _ (fun t hf => ?_) (fun i => ?_)
  · show (cfg1.win 3).cut (grid1.coords t) ((dat1 V c).after 3 t) = _
    rw [dat1_after3]
    have hl : ∀ A : Vec Ideal S1x512x1 .f32, ∀ y, (cfg1.win 3).cut (grid1.coords t) A y = A y := fun _ _ => rfl
    have hr : ∀ G : S4x32768x1.Idx → EReal, ∀ y, ((cfg1.win 3).blk t).view.read (Elt Ideal) G y = G (((cfg1.win 3).blk t).view.emb y) := fun _ _ => rfl
    funext y
    refine (hl _ y).trans (Eq.trans ?_ (hr _ y).symm)
    rw [place1 t (win1_3.index t) (index1_3 t) y (((cfg1.win 3).blk t).view.emb y) (fun _ => rfl)]
    exact (congrArg _ (block_idx y)).trans (outs1_at V c t ((flush1_3 t).mp hf) _).1
  · obtain ⟨t, ht, h⟩ := point1 i
    refine ⟨t, (flush1_3 t).mpr ht, ?_⟩
    show i ∈ ((View.whole main_call0_v9_0).slice (win1_3.rect t)).set
    rw [View.set_slice_whole, Rect.mem_set_unit]
    rw [← index1_3 t] at h
    exact h

/-- The array of the component along y, after the call. -/
theorem array1_4 (c : Dev nD) : (dat1 V c).arrAt 4 cfg1.N = comp1 V c (wgt V c) (der V c) (wgt V c) := by
  refine (dat1 V c).arrAt_eq_of_cover 4 _ (fun t hf => ?_) (fun i => ?_)
  · show (cfg1.win 4).cut (grid1.coords t) ((dat1 V c).after 4 t) = _
    rw [dat1_after4]
    have hl : ∀ A : Vec Ideal S1x512x1 .f32, ∀ y, (cfg1.win 4).cut (grid1.coords t) A y = A y := fun _ _ => rfl
    have hr : ∀ G : S4x32768x1.Idx → EReal, ∀ y, ((cfg1.win 4).blk t).view.read (Elt Ideal) G y = G (((cfg1.win 4).blk t).view.emb y) := fun _ _ => rfl
    funext y
    refine (hl _ y).trans (Eq.trans ?_ (hr _ y).symm)
    rw [place1 t (win1_4.index t) (index1_4 t) y (((cfg1.win 4).blk t).view.emb y) (fun _ => rfl)]
    exact (congrArg _ (block_idx y)).trans (outs1_at V c t ((flush1_4 t).mp hf) _).2.1
  · obtain ⟨t, ht, h⟩ := point1 i
    refine ⟨t, (flush1_4 t).mpr ht, ?_⟩
    show i ∈ ((View.whole main_call0_v9_1).slice (win1_4.rect t)).set
    rw [View.set_slice_whole, Rect.mem_set_unit]
    rw [← index1_4 t] at h
    exact h

/-- The array of the component along z, after the call. -/
theorem array1_5 (c : Dev nD) : (dat1 V c).arrAt 5 cfg1.N = comp1 V c (der V c) (wgt V c) (wgt V c) := by
  refine (dat1 V c).arrAt_eq_of_cover 5 _ (fun t hf => ?_) (fun i => ?_)
  · show (cfg1.win 5).cut (grid1.coords t) ((dat1 V c).after 5 t) = _
    rw [dat1_after5]
    have hl : ∀ A : Vec Ideal S1x512x1 .f32, ∀ y, (cfg1.win 5).cut (grid1.coords t) A y = A y := fun _ _ => rfl
    have hr : ∀ G : S4x32768x1.Idx → EReal, ∀ y, ((cfg1.win 5).blk t).view.read (Elt Ideal) G y = G (((cfg1.win 5).blk t).view.emb y) := fun _ _ => rfl
    funext y
    refine (hl _ y).trans (Eq.trans ?_ (hr _ y).symm)
    rw [place1 t (win1_5.index t) (index1_5 t) y (((cfg1.win 5).blk t).view.emb y) (fun _ => rfl)]
    exact (congrArg _ (block_idx y)).trans (outs1_at V c t ((flush1_5 t).mp hf) _).2.2
  · obtain ⟨t, ht, h⟩ := point1 i
    refine ⟨t, (flush1_5 t).mpr ht, ?_⟩
    show i ∈ ((View.whole main_call0_v9_2).slice (win1_5.rect t)).set
    rw [View.set_slice_whole, Rect.mem_set_unit]
    rw [← index1_5 t] at h
    exact h

end Cert.KernelIdeal.Launched

end
-- ==== Proof.HostK.lean ====
module

public import proofs.«01_k».proof.Proof.Run
public import proofs.«01_k».proof.Proof.Array1
public import Idealize.ShloMosaic.Lib.StableHlo.ReadAt

/-! # The kernel's host operations, element by element -/

@[expose] public section

set_option maxRecDepth 16384

noncomputable section

namespace Cert.KernelIdeal.Launched

open Cert.KernelIdeal.Gen
open Idealize.ShloMosaic Idealize.ShloMosaic.TcCoe Cert.Sample
open Idealize.SL.Sem
open Idealize.ShloMosaic.Pipeline (Dat Cfg Window)

variable (m : (ℓ : Loc nD τ sig) → Buf (Elt Ideal) ℓ)

/-- The sampling grid, flattened to one row of three coordinates per sample. -/
theorem gridA_at (c : Dev nD) (n : Fin 4) (P : Fin 32768) (q : Fin 3) :
    gridA (W0 m) c (ix3 n P q) = (m ((c : Thread nD τ).loc main_arg2) : S4x32x32x32x3.Idx → EReal)
      (ix5 n ⟨P.val / 1024, by have := P.isLt; omega⟩ ⟨P.val / 32 % 32, by omega⟩ ⟨P.val % 32, by omega⟩ q) := by
  unfold gridA W0 V1
  after_reads_at

/-- The incoming gradient, one row of 32 channels per sample. -/
theorem goA_at (c : Dev nD) (n : Fin 4) (P : Fin 32768) (q : Fin 32) :
    goA (W0 m) c (ix3 n P q) = (m ((c : Thread nD τ).loc main_arg0) : S4x32x32x32x32.Idx → EReal)
      (ix5 n q ⟨P.val / 1024, by have := P.isLt; omega⟩ ⟨P.val / 32 % 32, by omega⟩ ⟨P.val % 32, by omega⟩) := by
  unfold goA W0 V1
  after_reads_at

/-- A buffer that neither the first call nor the layout of its result writes is the same at the second call. -/
theorem W1_keeps (c : Dev nD) (r : Ref sig .tc) (h1 : r ∉ hostOps1_W)
    (hr0 : ∀ w, Pipeline.arrRef spec0 w = r → (cfg0.win w).isOut = false) :
    W1 m c (Proc.devRef .tc r) = W0 m c (Proc.devRef .tc r) := by
  unfold W1
  rw [StableHlo.after_of_writes_sub hostOps1 _ hostOps1_writes h1]
  unfold W0'
  rw [Pipeline.afterRegion_keeps (dat0 (W0 m) c) (W0 m c) launch0.win.arr_inj (dat0_A (W0 m) c) r hr0]

/-- The first call leaves the grid as it was. -/
theorem gridA_keeps (c : Dev nD) : gridA (W1 m) c = gridA (W0 m) c :=
  W1_keeps m c main_call0_v0 (by decide) (by decide)

/-- The first call leaves the incoming gradient as it was. -/
theorem goA_keeps (c : Dev nD) : goA (W1 m) c = goA (W0 m) c :=
  W1_keeps m c main_call0_v2 (by decide) (by decide)

/-- The input, channels moved to the back, one row per (z, y) pair. -/
theorem inpA_at (c : Dev nD) (n : Fin 4) (R : Fin 4096) (l : Fin 2048) :
    inpA (W1 m) c (ix3 n R l) = (m ((c : Thread nD τ).loc main_arg1) : S4x32x64x64x64.Idx → EReal)
      (ix5 n ⟨l.val % 32, by omega⟩ ⟨R.val / 64, by have := R.isLt; omega⟩ ⟨R.val % 64, by omega⟩ ⟨l.val / 32, by have := l.isLt; omega⟩) := by
  refine (congrFun (W1_keeps m c main_call0_v5 (by decide) (by decide)) _).trans ?_
  unfold W0 V1
  after_reads_at

/-- The first result: the first call's array with the channels moved to the front. -/
theorem gradInput_at (c : Dev nD) (n : Fin 4) (ch : Fin 32) (z y x : Fin 64) :
    (W2 m c (Proc.devRef .tc main_v0_0) : S4x32x64x64x64.Idx → EReal) (ix5 n ch z y x)
      = total0 (W0 m) c (ix3 n ⟨z.val * 64 + y.val, by have := z.isLt; have := y.isLt; omega⟩
          ⟨x.val * 32 + ch.val, by have := x.isLt; have := ch.isLt; omega⟩) := by
  have e : (W0' m c (Proc.devRef .tc main_call0_v6) : S4x4096x2048.Idx → EReal) = total0 (W0 m) c :=
    (Pipeline.afterRegion_arr (dat0 (W0 m) c) (W0 m c) launch0.win.arr_inj 2).trans (array0 (W0 m) c)
  rw [← e]
  unfold W2
  rw [StableHlo.after_of_writes_sub hostOps2 _ hostOps2_writes (by decide : main_v0_0 ∉ hostOps2_W)]
  unfold W1'
  rw [Pipeline.afterRegion_keeps (dat1 (W1 m) c) (W1 m c) launch1.win.arr_inj (dat1_A (W1 m) c) main_v0_0 (by decide)]
  unfold W1
  after_reads_at

/-- The second result: the second call's three arrays side by side. -/
theorem gradGrid0_at (c : Dev nD) (n : Fin 4) (d h w : Fin 32) :
    (W2 m c (Proc.devRef .tc main_v0_1) : S4x32x32x32x3.Idx → EReal) (ix5 n d h w 0)
      = comp1 (W1 m) c (wgt (W1 m) c) (wgt (W1 m) c) (der (W1 m) c)
          (ix3 n ⟨d.val * 1024 + h.val * 32 + w.val, by have := d.isLt; have := h.isLt; have := w.isLt; omega⟩ 0) := by
  rw [← array1_3]
  refine Eq.trans ?_ (congrFun (Pipeline.afterRegion_arr (dat1 (W1 m) c) (W1 m c) launch1.win.arr_inj 3) _)
  unfold W2
  after_reads_at
  rfl

/-- The `y` entry of the gradient by the grid. -/
theorem gradGrid1_at (c : Dev nD) (n : Fin 4) (d h w : Fin 32) :
    (W2 m c (Proc.devRef .tc main_v0_1) : S4x32x32x32x3.Idx → EReal) (ix5 n d h w 1)
      = comp1 (W1 m) c (wgt (W1 m) c) (der (W1 m) c) (wgt (W1 m) c)
          (ix3 n ⟨d.val * 1024 + h.val * 32 + w.val, by have := d.isLt; have := h.isLt; have := w.isLt; omega⟩ 0) := by
  rw [← array1_4]
  refine Eq.trans ?_ (congrFun (Pipeline.afterRegion_arr (dat1 (W1 m) c) (W1 m c) launch1.win.arr_inj 4) _)
  unfold W2
  after_reads_at
  rfl

/-- The `z` entry of the gradient by the grid. -/
theorem gradGrid2_at (c : Dev nD) (n : Fin 4) (d h w : Fin 32) :
    (W2 m c (Proc.devRef .tc main_v0_1) : S4x32x32x32x3.Idx → EReal) (ix5 n d h w 2)
      = comp1 (W1 m) c (der (W1 m) c) (wgt (W1 m) c) (wgt (W1 m) c)
          (ix3 n ⟨d.val * 1024 + h.val * 32 + w.val, by have := d.isLt; have := h.isLt; have := w.isLt; omega⟩ 0) := by
  rw [← array1_5]
  refine Eq.trans ?_ (congrFun (Pipeline.afterRegion_arr (dat1 (W1 m) c) (W1 m c) launch1.win.arr_inj 5) _)
  unfold W2
  after_reads_at
  rfl

end Cert.KernelIdeal.Launched

end
-- ==== Proof.Clip.lean ====
module

public import proofs.«01_k».proof.Proof.Taps

/-! # The reference's words: moving a corner inside, and asking whether it is there -/

@[expose] public section

noncomputable section

namespace Cert.Sample

open Idealize.ShloMosaic

/-- A word moved into the 64 positions is its place. -/
theorem clip_word (w : BitVec 32) : IntOp.minsi 63#32 (IntOp.maxsi 0#32 w) = BitVec.ofNat 32 (place w).val := by
  have h0 : (0#32 : BitVec 32).toInt = 0 := by decide
  have h63 : (63#32 : BitVec 32).toInt = 63 := by decide
  have hmax : IntOp.maxsi 0#32 w = if w.toInt < 0 then 0#32 else w := by
    show (if w.slt 0#32 then _ else _) = _
    simp only [BitVec.slt, h0, decide_eq_true_eq]
  have hmin : ∀ v : BitVec 32, IntOp.minsi 63#32 v = if 63 < v.toInt then 63#32 else v := fun v => by
    show (if (63#32).slt v then _ else _) = _
    simp only [BitVec.slt, h63, decide_eq_true_eq]
  rw [hmax, hmin]
  by_cases hn : w.toInt < 0
  · have e : place w = 0 := Fin.ext (by show (min 63 (max 0 w.toInt)).toNat = 0; omega)
    rw [if_pos hn, e]
    rfl
  · rw [if_neg hn]
    by_cases hb : 63 < w.toInt
    · have e : place w = 63 := Fin.ext (by show (min 63 (max 0 w.toInt)).toNat = 63; omega)
      rw [if_pos hb, e]
      rfl
    · rw [if_neg hb]
      exact ((eq_word_iff (place w) w).2 ⟨⟨by omega, by omega⟩, rfl⟩).symm

/-- A position is not negative, so it is not wrapped round. -/
theorem wrap_pos : ∀ j : Fin 64, Scalar.select (IntOp.cmpi .slt (BitVec.ofNat 32 j.val) 0#32)
    (IntOp.addi (BitVec.ofNat 32 j.val) 64#32) (BitVec.ofNat 32 j.val) = BitVec.ofNat 32 j.val := by decide +kernel
/-- The number of an image is not negative, so it is not wrapped round. -/
theorem wrap_img : ∀ n : Fin 4, Scalar.select (IntOp.cmpi .slt (BitVec.ofNat 32 n.val) 0#32)
    (IntOp.addi (BitVec.ofNat 32 n.val) 4#32) (BitVec.ofNat 32 n.val) = BitVec.ofNat 32 n.val := by decide +kernel

/-- The two comparisons ask whether the word is inside. -/
theorem inside_bit (w : BitVec 32) : IntOp.cmpi .sge w 0#32 &&& IntOp.cmpi .slt w 64#32 = BitVec.ofBool (decide (Inside w)) := by
  have h0 : (0#32 : BitVec 32).toInt = 0 := by decide
  have h64 : (64#32 : BitVec 32).toInt = 64 := by decide
  show BitVec.ofBool ((0#32).sle w) &&& BitVec.ofBool (w.slt 64#32) = _
  simp only [BitVec.sle, BitVec.slt, h0, h64, Inside]
  by_cases h : 0 ≤ w.toInt <;> by_cases h' : w.toInt < 64 <;> simp [h, h']

/-- The six comparisons of a corner of three axes, as a number. -/
theorem inside_all (x y z : BitVec 32) :
    FloatOps.uitofp (F := Ideal) FTy.f32 (IntOp.andi (IntOp.andi (IntOp.andi (IntOp.andi (IntOp.andi (IntOp.cmpi .sge x 0#32) (IntOp.cmpi .slt x 64#32))
      (IntOp.cmpi .sge y 0#32)) (IntOp.cmpi .slt y 64#32)) (IntOp.cmpi .sge z 0#32)) (IntOp.cmpi .slt z 64#32))
      = ((if Inside x then (1 : EReal) else 0) * (if Inside y then 1 else 0)) * (if Inside z then 1 else 0) := by
  unfold IntOp.andi
  rw [BitVec.and_assoc _ (IntOp.cmpi .sge z 0#32), BitVec.and_assoc _ (IntOp.cmpi .sge y 0#32), inside_bit, inside_bit, inside_bit]
  show (((BitVec.toNat _ : ℕ) : ℝ) : EReal) = _
  by_cases hx : Inside x <;> by_cases hy : Inside y <;> by_cases hz : Inside z <;> simp [hx, hy, hz]

end Cert.Sample

end
-- ==== Proof.RefCorners.lean ====
module

public import proofs.«01_k».proof.Proof.Gen.ReferenceIdeal.Read
public import proofs.«01_k».proof.Proof.Clip

/-! # What the reference holds of each sample: coordinates, corners and weights -/

@[expose] public section

set_option maxRecDepth 16384

noncomputable section

namespace Cert.ReferenceIdeal.Sampled

open Cert.ReferenceIdeal Cert.ReferenceIdeal.Gen Cert.ReferenceIdeal.Read
open Idealize.ShloMosaic Cert.Sample

variable (x0 : S4x32x32x32x32.Idx → EReal) (x1 : S4x32x64x64x64.Idx → EReal) (x2 : S4x32x32x32x3.Idx → EReal)

/-- The normalised coordinate `q` (0, 1, 2 for x, y, z) of sample `P` of image `n`. -/
def gAt (n : Fin 4) (P : Fin 32768) (q : Fin 3) : EReal :=
  x2 (ix5 n ⟨P.val / 1024, by have := P.isLt; omega⟩ ⟨P.val / 32 % 32, by omega⟩ ⟨P.val % 32, by omega⟩ q)

/-- The coordinates in voxels. -/
theorem coordX (n : Fin 4) (P : Fin 32768) : val_main_v8 (F := Ideal) x2 (ix2 n P) = coord (gAt x2 n P 0) := by
  rw [← coord_eq]
  pointwise [val_main_v8, val_main_v7, val_main_cst_1, val_main_v6, val_main_v5, val_main_cst_0, val_main_v4, val_main_v3, val_main_cst, val_main_v2, val_main_v1, val_main_v0]
  rfl
/-- A sample's `y` coordinate in voxels. -/
theorem coordY (n : Fin 4) (P : Fin 32768) : val_main_v16 (F := Ideal) x2 (ix2 n P) = coord (gAt x2 n P 1) := by
  rw [← coord_eq]
  pointwise [val_main_v16, val_main_v15, val_main_cst_4, val_main_v14, val_main_v13, val_main_cst_3, val_main_v12, val_main_v11, val_main_cst_2, val_main_v10, val_main_v9, val_main_v0]
  rfl
/-- A sample's `z` coordinate in voxels. -/
theorem coordZ (n : Fin 4) (P : Fin 32768) : val_main_v24 (F := Ideal) x2 (ix2 n P) = coord (gAt x2 n P 2) := by
  rw [← coord_eq]
  pointwise [val_main_v24, val_main_v23, val_main_cst_7, val_main_v22, val_main_v21, val_main_cst_6, val_main_v20, val_main_v19, val_main_cst_5, val_main_v18, val_main_v17, val_main_v0]
  rfl

/-- The words of the two corners along x. -/
theorem cornerX (n : Fin 4) (P : Fin 32768) (d : Fin 2) :
    val_main_v42 (F := Ideal) x2 (ix5 n P 0 0 d) = corner (cell (gAt x2 n P 0)) d := by
  have h := coordX x2 n P
  pointwise [val_main_v42, val_main_v41, val_main_v40, val_main_v39, val_main_v38, val_main_v37, val_main_v36, val_main_v31, val_main_v25]
  rw [h]
  rfl
/-- The word of a corner along `y`. -/
theorem cornerY (n : Fin 4) (P : Fin 32768) (d : Fin 2) :
    val_main_v48 (F := Ideal) x2 (ix5 n P 0 d 0) = corner (cell (gAt x2 n P 1)) d := by
  have h := coordY x2 n P
  pointwise [val_main_v48, val_main_v47, val_main_v46, val_main_v45, val_main_v44, val_main_v38, val_main_v43, val_main_v32, val_main_v26]
  rw [h]
  rfl
/-- The word of a corner along `z`. -/
theorem cornerZ (n : Fin 4) (P : Fin 32768) (d : Fin 2) :
    val_main_v54 (F := Ideal) x2 (ix5 n P d 0 0) = corner (cell (gAt x2 n P 2)) d := by
  have h := coordZ x2 n P
  pointwise [val_main_v54, val_main_v53, val_main_v52, val_main_v51, val_main_v50, val_main_v38, val_main_v49, val_main_v33, val_main_v27]
  rw [h]
  rfl

/-- The weights of the two corners along each axis. -/
theorem weightX (n : Fin 4) (P : Fin 32768) (d : Fin 2) :
    val_main_v116 (F := Ideal) x2 (ix5 n P 0 0 d) = wt (frac (gAt x2 n P 0)) d := by
  have h := coordX x2 n P
  fin_cases d <;>
  · pointwise [val_main_v116, val_main_v115, val_main_v114, val_main_v113, val_main_v112, val_main_v111, val_main_cst_27, val_main_v28, val_main_v25]
    rw [h]
    rfl
/-- The weight of a corner along `y`. -/
theorem weightY (n : Fin 4) (P : Fin 32768) (d : Fin 2) :
    val_main_v122 (F := Ideal) x2 (ix5 n P 0 d 0) = wt (frac (gAt x2 n P 1)) d := by
  have h := coordY x2 n P
  fin_cases d <;>
  · pointwise [val_main_v122, val_main_v121, val_main_v120, val_main_v119, val_main_v118, val_main_v117, val_main_cst_28, val_main_v29, val_main_v26]
    rw [h]
    rfl
/-- The weight of a corner along `z`. -/
theorem weightZ (n : Fin 4) (P : Fin 32768) (d : Fin 2) :
    val_main_v131 (F := Ideal) x2 (ix5 n P d 0 0) = wt (frac (gAt x2 n P 2)) d := by
  have h := coordZ x2 n P
  fin_cases d <;>
  · pointwise [val_main_v131, val_main_v130, val_main_v129, val_main_v128, val_main_v127, val_main_v126, val_main_cst_29, val_main_v30, val_main_v27]
    rw [h]
    rfl

/-- The places of the two corners along each axis. -/
theorem placeX (n : Fin 4) (P : Fin 32768) (d : Fin 2) :
    val_main_v100 (F := Ideal) x2 (ix5 n P 0 0 d) = BitVec.ofNat 32 (place (corner (cell (gAt x2 n P 0)) d)).val := by
  have h := cornerX x2 n P d
  pointwise [val_main_v100, val_main_v99, val_main_v98, val_main_c_26, val_main_v97, val_main_v96, val_main_c_25, val_main_v78, val_main_call0_v4, val_main_call0_v3, val_main_c_14, val_main_call0_v2, val_main_call0_v1, val_main_call0_v0, val_main_c_13]
  rw [h]
  show Scalar.select (IntOp.cmpi .slt (IntOp.minsi 63#32 (IntOp.maxsi 0#32 _)) 0#32) (IntOp.addi (IntOp.minsi 63#32 (IntOp.maxsi 0#32 _)) 64#32)
    (IntOp.minsi 63#32 (IntOp.maxsi 0#32 _)) = _
  rw [clip_word, wrap_pos]
/-- The clipped place of a corner along `y`. -/
theorem placeY (n : Fin 4) (P : Fin 32768) (d : Fin 2) :
    val_main_v95 (F := Ideal) x2 (ix5 n P 0 d 0) = BitVec.ofNat 32 (place (corner (cell (gAt x2 n P 1)) d)).val := by
  have h := cornerY x2 n P d
  pointwise [val_main_v95, val_main_v94, val_main_v93, val_main_c_24, val_main_v92, val_main_v91, val_main_c_23, val_main_v79, val_main_call1_v4, val_main_call1_v3, val_main_c_16, val_main_call1_v2, val_main_call1_v1, val_main_call1_v0, val_main_c_15]
  rw [h]
  show Scalar.select (IntOp.cmpi .slt (IntOp.minsi 63#32 (IntOp.maxsi 0#32 _)) 0#32) (IntOp.addi (IntOp.minsi 63#32 (IntOp.maxsi 0#32 _)) 64#32)
    (IntOp.minsi 63#32 (IntOp.maxsi 0#32 _)) = _
  rw [clip_word, wrap_pos]
/-- The clipped place of a corner along `z`. -/
theorem placeZ (n : Fin 4) (P : Fin 32768) (d : Fin 2) :
    val_main_v90 (F := Ideal) x2 (ix5 n P d 0 0) = BitVec.ofNat 32 (place (corner (cell (gAt x2 n P 2)) d)).val := by
  have h := cornerZ x2 n P d
  pointwise [val_main_v90, val_main_v89, val_main_v88, val_main_c_22, val_main_v87, val_main_v86, val_main_c_21, val_main_v80, val_main_call2_v4, val_main_call2_v3, val_main_c_18, val_main_call2_v2, val_main_call2_v1, val_main_call2_v0, val_main_c_17]
  rw [h]
  show Scalar.select (IntOp.cmpi .slt (IntOp.minsi 63#32 (IntOp.maxsi 0#32 _)) 0#32) (IntOp.addi (IntOp.minsi 63#32 (IntOp.maxsi 0#32 _)) 64#32)
    (IntOp.minsi 63#32 (IntOp.maxsi 0#32 _)) = _
  rw [clip_word, wrap_pos]

/-- One where the corner is inside along all three axes. -/
theorem insideAll (n : Fin 4) (P : Fin 32768) (dz dy dx : Fin 2) :
    val_main_v135 (F := Ideal) x2 (ix5 n P dz dy dx)
      = (ind (cell (gAt x2 n P 0)) dx * ind (cell (gAt x2 n P 1)) dy) * ind (cell (gAt x2 n P 2)) dz := by
  have hx := cornerX x2 n P dx
  have hy := cornerY x2 n P dy
  have hz := cornerZ x2 n P dz
  pointwise [val_main_v135, val_main_v77, val_main_v76, val_main_v75, val_main_v74, val_main_c_12, val_main_v73, val_main_v72, val_main_v71,
    val_main_v70, val_main_v69, val_main_c_11, val_main_v68, val_main_v67, val_main_v66, val_main_v65, val_main_c_10, val_main_v64, val_main_v63,
    val_main_v62, val_main_v61, val_main_v60, val_main_c_9, val_main_v59, val_main_v58, val_main_v57, val_main_c_8, val_main_v56, val_main_v55, val_main_c]
  rw [hx, hy, hz]
  exact inside_all _ _ _

/-- The index tuple of a corner: the image and the three places. -/
theorem tuple (n : Fin 4) (P : Fin 32768) (dz dy dx : Fin 2) :
    val_main_v109 (F := Ideal) x2 (ix6 n P dz dy dx 0) = BitVec.ofNat 32 n.val
    ∧ val_main_v109 (F := Ideal) x2 (ix6 n P dz dy dx 1) = BitVec.ofNat 32 (place (corner (cell (gAt x2 n P 2)) dz)).val
    ∧ val_main_v109 (F := Ideal) x2 (ix6 n P dz dy dx 2) = BitVec.ofNat 32 (place (corner (cell (gAt x2 n P 1)) dy)).val
    ∧ val_main_v109 (F := Ideal) x2 (ix6 n P dz dy dx 3) = BitVec.ofNat 32 (place (corner (cell (gAt x2 n P 0)) dx)).val := by
  have hn := wrap_img n
  have hx := placeX x2 n P dx
  have hy := placeY x2 n P dy
  have hz := placeZ x2 n P dz
  pointwise [val_main_v109, val_main_v108, val_main_v107, val_main_v106, val_main_v105, val_main_v104, val_main_v103, val_main_v102, val_main_v101,
     val_main_v85, val_main_v84, val_main_v83, val_main_v82, val_main_v81, val_main_c_20, val_main_c_19, val_main_v35, val_main_v34]
  exact ⟨hn, hz, hy, hx⟩

end Cert.ReferenceIdeal.Sampled

end
-- ==== Proof.RefIn.lean ====
module

public import proofs.«01_k».proof.Proof.RefCorners
public import Idealize.ShloMosaic.Lib.Routing.OpsPair

/-! # What the reference scatters: the gradient of the input as a sum over samples and corners -/

@[expose] public section

set_option maxRecDepth 16384

noncomputable section

namespace Cert.ReferenceIdeal.Sampled

open Cert.ReferenceIdeal Cert.ReferenceIdeal.Gen Cert.ReferenceIdeal.Read
open Idealize.ShloMosaic Cert.Sample

variable (x0 : S4x32x32x32x32.Idx → EReal) (x1 : S4x32x64x64x64.Idx → EReal) (x2 : S4x32x32x32x3.Idx → EReal)

/-- The incoming gradient of channel `ch` of sample `P`. -/
def goAt (n : Fin 4) (P : Fin 32768) (ch : Fin 32) : EReal :=
  x0 (ix5 n ch ⟨P.val / 1024, by have := P.isLt; omega⟩ ⟨P.val / 32 % 32, by omega⟩ ⟨P.val % 32, by omega⟩)

/-- Where corner `d` of sample `P` lies along axis `q`. -/
def pos (n : Fin 4) (P : Fin 32768) (q : Fin 3) (d : Fin 2) : Fin 64 := place (corner (cell (gAt x2 n P q)) d)

/-- The weight of corner `d` along axis `q`, and one where it is inside. -/
def wq (n : Fin 4) (P : Fin 32768) (q : Fin 3) (d : Fin 2) : EReal := wt (frac (gAt x2 n P q)) d
def iq (n : Fin 4) (P : Fin 32768) (q : Fin 3) (d : Fin 2) : EReal := ind (cell (gAt x2 n P q)) d

abbrev dims : ScatterDims S4x32x64x64x64 S4x32768x2x2x2x4 S4x32768x2x2x2x32 :=
  scatter_S4x32x64x64x64_S4x32768x2x2x2x4_S4x32768x2x2x2x32_5_0234_0234_5
abbrev gdims : GatherDims S4x32x64x64x64 S4x32768x2x2x2x4 S4x32768x2x2x2x32 :=
  gather_S4x32x64x64x64_S4x32768x2x2x2x4_S4x32768x2x2x2x32_5_0234_n_n_0234_5_132111

/-- The entry `k` of an index tuple. -/
def four (k : Fin 4) : Fin dims.scatterDimsToOperandDims.length := k
def gfour (k : Fin 4) : Fin gdims.startIndexMap.length := k

/-- The words of an update's index tuple are read at its own sample and corner. -/
theorem siIdx_eq (n : Fin 4) (P : Fin 32768) (dz dy dx : Fin 2) (c : Fin 32) (k : Fin 4) :
    dims.siIdx (ix6 n P dz dy dx c) (four k) = ix6 n P dz dy dx k := by
  funext b
  match b with
  | ⟨0, _⟩ => rfl
  | ⟨1, _⟩ => rfl
  | ⟨2, _⟩ => rfl
  | ⟨3, _⟩ => rfl
  | ⟨4, _⟩ => rfl
  | ⟨5, _⟩ => rfl

/-- Where the gather reads the start words of a corner. -/
theorem gsiIdx_eq (n : Fin 4) (P : Fin 32768) (dz dy dx : Fin 2) (c : Fin 32) (k : Fin 4) :
    gdims.siIdx (ix6 n P dz dy dx c) (gfour k) = ix6 n P dz dy dx k := by
  funext b
  match b with
  | ⟨0, _⟩ => rfl
  | ⟨1, _⟩ => rfl
  | ⟨2, _⟩ => rfl
  | ⟨3, _⟩ => rfl
  | ⟨4, _⟩ => rfl
  | ⟨5, _⟩ => rfl

/-- The number of an image, read as an integer. -/
theorem toInt_img : ∀ n : Fin 4, (BitVec.ofNat 32 n.val).toInt = n.val := by decide

/-- The window of an update starts at the signed words of its tuple. -/
theorem start_word (idx : S4x32768x2x2x2x4.Idx → BitVec 32) (j : S4x32768x2x2x2x32.Idx) :
    dims.start j idx 0 = (idx (dims.siIdx j (four 0))).toInt
    ∧ dims.start j idx 1 = 0
    ∧ dims.start j idx 2 = (idx (dims.siIdx j (four 1))).toInt
    ∧ dims.start j idx 3 = (idx (dims.siIdx j (four 2))).toInt
    ∧ dims.start j idx 4 = (idx (dims.siIdx j (four 3))).toInt :=
  ⟨rfl, rfl, rfl, rfl, rfl⟩

/-- Where the window of an update starts, axis by axis: image, no channel, the three places. -/
theorem start_eq (n : Fin 4) (P : Fin 32768) (dz dy dx : Fin 2) (c : Fin 32) :
    dims.start (ix6 n P dz dy dx c) (val_main_v109 (F := Ideal) x2) 0 = (n.val : ℤ)
    ∧ dims.start (ix6 n P dz dy dx c) (val_main_v109 (F := Ideal) x2) 1 = 0
    ∧ dims.start (ix6 n P dz dy dx c) (val_main_v109 (F := Ideal) x2) 2 = ((pos x2 n P 2 dz).val : ℤ)
    ∧ dims.start (ix6 n P dz dy dx c) (val_main_v109 (F := Ideal) x2) 3 = ((pos x2 n P 1 dy).val : ℤ)
    ∧ dims.start (ix6 n P dz dy dx c) (val_main_v109 (F := Ideal) x2) 4 = ((pos x2 n P 0 dx).val : ℤ) := by
  obtain ⟨t0, t1, t2, t3⟩ := tuple x2 n P dz dy dx
  obtain ⟨h0, h1, h2, h3, h4⟩ := start_word (val_main_v109 (F := Ideal) x2) (ix6 n P dz dy dx c)
  rw [siIdx_eq] at h0 h2 h3 h4
  exact ⟨h0.trans ((congrArg BitVec.toInt t0).trans (toInt_img n)), h1, h2.trans ((congrArg BitVec.toInt t1).trans (toInt_pos _)),
    h3.trans ((congrArg BitVec.toInt t2).trans (toInt_pos _)), h4.trans ((congrArg BitVec.toInt t3).trans (toInt_pos _))⟩

/-- An update lands at a voxel exactly when image, channel and the three places are the voxel's. -/
theorem lands (n' : Fin 4) (P : Fin 32768) (dz dy dx : Fin 2) (c : Fin 32) (n : Fin 4) (ch : Fin 32) (z y x : Fin 64) :
    dims.resultIdx? (ix6 n' P dz dy dx c) (val_main_v109 (F := Ideal) x2) = some (ix5 n ch z y x)
      ↔ n' = n ∧ c = ch ∧ pos x2 n' P 2 dz = z ∧ pos x2 n' P 1 dy = y ∧ pos x2 n' P 0 dx = x := by
  obtain ⟨h0, h1, h2, h3, h4⟩ := start_eq x2 n' P dz dy dx c
  rw [Routing.resultIdx?_eq_some]
  have w0 : dims.window (ix6 n' P dz dy dx c) 0 = 0 := rfl
  have w1 : dims.window (ix6 n' P dz dy dx c) 1 = c.val := rfl
  have w2 : dims.window (ix6 n' P dz dy dx c) 2 = 0 := rfl
  have w3 : dims.window (ix6 n' P dz dy dx c) 3 = 0 := rfl
  have w4 : dims.window (ix6 n' P dz dy dx c) 4 = 0 := rfl
  constructor
  · intro h
    have e0 := h 0
    have e1 := h 1
    have e2 := h 2
    have e3 := h 3
    have e4 := h 4
    rw [h0, w0] at e0
    rw [h1, w1] at e1
    rw [h2, w2] at e2
    rw [h3, w3] at e3
    rw [h4, w4] at e4
    simp only [ix5_0, ix5_1, ix5_2, ix5_3, ix5_4] at e0 e1 e2 e3 e4
    refine ⟨Fin.ext ?_, Fin.ext ?_, Fin.ext ?_, Fin.ext ?_, Fin.ext ?_⟩ <;> omega
  · rintro ⟨rfl, rfl, rfl, rfl, rfl⟩ a
    match a with
    | ⟨0, _⟩ => exact (congrArg₂ (fun u v => u + ((v : ℕ) : ℤ)) h0 w0).trans (by simp)
    | ⟨1, _⟩ => exact (congrArg₂ (fun u v => u + ((v : ℕ) : ℤ)) h1 w1).trans (by simp)
    | ⟨2, _⟩ => exact (congrArg₂ (fun u v => u + ((v : ℕ) : ℤ)) h2 w2).trans (by simp)
    | ⟨3, _⟩ => exact (congrArg₂ (fun u v => u + ((v : ℕ) : ℤ)) h3 w3).trans (by simp)
    | ⟨4, _⟩ => exact (congrArg₂ (fun u v => u + ((v : ℕ) : ℤ)) h4 w4).trans (by simp)

/-- The gathered window starts at the words of its tuple, clamped into the input. -/
theorem operand_word (idx : S4x32768x2x2x2x4.Idx → BitVec 32) (j : S4x32768x2x2x2x32.Idx) :
    (gdims.operandIdx j idx 0).val = min (idx (gdims.siIdx j (gfour 0))).toInt.toNat 3 + 0 + 0
    ∧ (gdims.operandIdx j idx 1).val = 0 + 0 + (j 5).val
    ∧ (gdims.operandIdx j idx 2).val = min (idx (gdims.siIdx j (gfour 1))).toInt.toNat 63 + 0 + 0
    ∧ (gdims.operandIdx j idx 3).val = min (idx (gdims.siIdx j (gfour 2))).toInt.toNat 63 + 0 + 0
    ∧ (gdims.operandIdx j idx 4).val = min (idx (gdims.siIdx j (gfour 3))).toInt.toNat 63 + 0 + 0 :=
  ⟨rfl, rfl, rfl, rfl, rfl⟩

/-- A word that is a place is not changed by the clamp. -/
theorem clamp_place (w : BitVec 32) (p : Fin 64) (h : w = BitVec.ofNat 32 p.val) : min w.toInt.toNat 63 + 0 + 0 = p.val := by
  have := p.isLt
  rw [h, toInt_pos]; omega

/-- The clamp leaves the number of an image as it is. -/
theorem clamp_img (w : BitVec 32) (p : Fin 4) (h : w = BitVec.ofNat 32 p.val) : min w.toInt.toNat 3 + 0 + 0 = p.val := by
  have := p.isLt
  rw [h, toInt_img]; omega

/-- What the gather reads: the input at the corner. -/
theorem gathered (n : Fin 4) (P : Fin 32768) (dz dy dx : Fin 2) (c : Fin 32) :
    val_main_v110 (F := Ideal) x1 x2 (ix6 n P dz dy dx c) = x1 (ix5 n c (pos x2 n P 2 dz) (pos x2 n P 1 dy) (pos x2 n P 0 dx)) := by
  obtain ⟨t0, t1, t2, t3⟩ := tuple x2 n P dz dy dx
  obtain ⟨h0, h1, h2, h3, h4⟩ := operand_word (val_main_v109 (F := Ideal) x2) (ix6 n P dz dy dx c)
  rw [gsiIdx_eq] at h0 h2 h3 h4
  refine congrArg x1 (funext fun a => Fin.ext ?_)
  match a with
  | ⟨0, _⟩ => exact h0.trans (clamp_img _ _ t0)
  | ⟨1, _⟩ => exact h1.trans (by simp)
  | ⟨2, _⟩ => exact h2.trans (clamp_place _ _ t1)
  | ⟨3, _⟩ => exact h3.trans (clamp_place _ _ t2)
  | ⟨4, _⟩ => exact h4.trans (clamp_place _ _ t3)

/-- The gradient that a corner of a sample passes to its voxel. -/
theorem update (n : Fin 4) (P : Fin 32768) (dz dy dx : Fin 2) (c : Fin 32) :
    val_main_v149 (F := Ideal) x0 x2 (ix6 n P dz dy dx c)
      = goAt x0 n P c * (((wq x2 n P 0 dx * wq x2 n P 1 dy) * wq x2 n P 2 dz) * ((iq x2 n P 0 dx * iq x2 n P 1 dy) * iq x2 n P 2 dz)) := by
  have hi := insideAll x2 n P dz dy dx
  have hx := weightX x2 n P dx
  have hy := weightY x2 n P dy
  have hz := weightZ x2 n P dz
  pointwise [val_main_v149, val_main_v148, val_main_v144, val_main_v143, val_main_v142, val_main_v137, val_main_v136, val_main_v134, val_main_v133,
    val_main_v132, val_main_v125, val_main_v124, val_main_v123]
  rw [hi, hx, hy, hz]
  rfl

/-- The gradient of the input: the sum over the samples of the image and their corners at the voxel. -/
theorem gradInput (n : Fin 4) (ch : Fin 32) (z y x : Fin 64) :
    val_main_v190 (F := Ideal) x0 x2 (ix5 n ch z y x) = ∑ P : Fin 32768, ∑ dz : Fin 2, ∑ dy : Fin 2, ∑ dx : Fin 2,
      if pos x2 n P 2 dz = z ∧ pos x2 n P 1 dy = y ∧ pos x2 n P 0 dx = x then
        goAt x0 n P ch * (((wq x2 n P 0 dx * wq x2 n P 1 dy) * wq x2 n P 2 dz) * ((iq x2 n P 0 dx * iq x2 n P 1 dy) * iq x2 n P 2 dz))
      else 0 := by
  show val_main_v189 (F := Ideal) (ix5 n ch z y x) + ∑ j ∈ Finset.univ.filter (fun j => dims.resultIdx? j (val_main_v109 (F := Ideal) x2) = some (ix5 n ch z y x)),
    val_main_v149 (F := Ideal) x0 x2 j = _
  have h0 : val_main_v189 (F := Ideal) (ix5 n ch z y x) = 0 := by
    pointwise [val_main_v189, val_main_cst_40]
  rw [h0, zero_add, Finset.sum_filter, sum_idx6, Fintype.sum_eq_single n]
  · refine Finset.sum_congr rfl fun P _ => Finset.sum_congr rfl fun dz _ => Finset.sum_congr rfl fun dy _ => Finset.sum_congr rfl fun dx _ => ?_
    rw [Fintype.sum_eq_single ch]
    · rw [update]
      refine if_congr ?_ rfl rfl
      rw [lands]
      exact ⟨fun h => h.2.2, fun h => ⟨rfl, rfl, h⟩⟩
    · intro c hc
      rw [if_neg]
      rw [lands]
      exact fun h => hc h.2.1
  · intro n' hn
    refine Finset.sum_eq_zero fun P _ => Finset.sum_eq_zero fun dz _ => Finset.sum_eq_zero fun dy _ => Finset.sum_eq_zero fun dx _ => Finset.sum_eq_zero fun c _ => ?_
    rw [if_neg]
    rw [lands]
    exact fun h => hn h.1

end Cert.ReferenceIdeal.Sampled

end
-- ==== Proof.Sums.lean ====
module

public import Idealize.ShloMosaic.Lib.Pointwise

/-! # Sums over the last axis of six, and over two axes of five, read at an index -/

@[expose] public section

namespace Cert.Sample

open Idealize.ShloMosaic

variable {n0 n1 n2 n3 n4 n5 : Nat}

/-- Dropping the last of six coordinates. -/
theorem drop6_5 (h : (⟨6, ![n0, n1, n2, n3, n4, n5]⟩ : Shape).ReducesTo [5] ⟨5, ![n0, n1, n2, n3, n4]⟩)
    (a : Fin n0) (b : Fin n1) (c : Fin n2) (d : Fin n3) (e : Fin n4) (f : Fin n5) :
    h.drop (ix6 a b c d e f) = ix5 a b c d e := by
  funext k
  match k with
  | ⟨0, _⟩ => exact Fin.ext rfl
  | ⟨1, _⟩ => exact Fin.ext rfl
  | ⟨2, _⟩ => exact Fin.ext rfl
  | ⟨3, _⟩ => exact Fin.ext rfl
  | ⟨4, _⟩ => exact Fin.ext rfl

/-- A sum over the last of six axes. -/
theorem sum6_5 (h : (⟨6, ![n0, n1, n2, n3, n4, n5]⟩ : Shape).ReducesTo [5] ⟨5, ![n0, n1, n2, n3, n4]⟩)
    (v : (⟨6, ![n0, n1, n2, n3, n4, n5]⟩ : Shape).Idx → EReal) (z : EReal) (a : Fin n0) (b : Fin n1) (c : Fin n2) (d : Fin n3) (e : Fin n4) :
    Ideal.hostReduceAdd h v z (ix5 a b c d e) = z + ∑ f : Fin n5, v (ix6 a b c d e f) := by
  refine congrArg (z + ·) (Finset.sum_bij (fun f _ => ix6 a b c d e f) ?_ ?_ ?_ ?_).symm
  · exact fun f _ => Finset.mem_filter.2 ⟨Finset.mem_univ _, drop6_5 h a b c d e f⟩
  · exact fun f _ f' _ hf => ((ix6_inj _ _ _ _ _ _ _ _ _ _ _ _).1 hf).2.2.2.2.2
  · intro i hi
    have hd := (Finset.mem_filter.1 hi).2
    rw [eq_ix6 i] at hd ⊢
    obtain ⟨ha, hb, hc, hd, he⟩ := (ix5_inj _ _ _ _ _ _ _ _ _ _).1 ((drop6_5 h _ _ _ _ _ _).symm.trans hd)
    exact ⟨i 5, Finset.mem_univ _, (ix6_inj _ _ _ _ _ _ _ _ _ _ _ _).2 ⟨ha.symm, hb.symm, hc.symm, hd.symm, he.symm, rfl⟩⟩
  · exact fun _ _ => rfl

/-- Dropping the last two of five coordinates. -/
theorem drop5_34 (h : (⟨5, ![n0, n1, n2, n3, n4]⟩ : Shape).ReducesTo [3, 4] ⟨3, ![n0, n1, n2]⟩)
    (a : Fin n0) (b : Fin n1) (c : Fin n2) (d : Fin n3) (e : Fin n4) : h.drop (ix5 a b c d e) = ix3 a b c := by
  funext k
  match k with
  | ⟨0, _⟩ => exact Fin.ext rfl
  | ⟨1, _⟩ => exact Fin.ext rfl
  | ⟨2, _⟩ => exact Fin.ext rfl

/-- A sum over the last two of five axes. -/
theorem sum5_34 (h : (⟨5, ![n0, n1, n2, n3, n4]⟩ : Shape).ReducesTo [3, 4] ⟨3, ![n0, n1, n2]⟩)
    (v : (⟨5, ![n0, n1, n2, n3, n4]⟩ : Shape).Idx → EReal) (z : EReal) (a : Fin n0) (b : Fin n1) (c : Fin n2) :
    Ideal.hostReduceAdd h v z (ix3 a b c) = z + ∑ d : Fin n3, ∑ e : Fin n4, v (ix5 a b c d e) := by
  refine (congrArg (z + ·) (Finset.sum_bij (fun (p : Fin n3 × Fin n4) _ => ix5 a b c p.1 p.2) ?_ ?_ ?_ ?_).symm).trans
    (congrArg (z + ·) (Fintype.sum_prod_type fun p : Fin n3 × Fin n4 => v (ix5 a b c p.1 p.2)))
  · exact fun p _ => Finset.mem_filter.2 ⟨Finset.mem_univ _, drop5_34 h a b c p.1 p.2⟩
  · exact fun p _ p' _ hp => Prod.ext ((ix5_inj _ _ _ _ _ _ _ _ _ _).1 hp).2.2.2.1 ((ix5_inj _ _ _ _ _ _ _ _ _ _).1 hp).2.2.2.2
  · intro i hi
    have hd := (Finset.mem_filter.1 hi).2
    rw [eq_ix5 i] at hd ⊢
    obtain ⟨ha, hb, hc⟩ := (ix3_inj _ _ _ _ _ _).1 ((drop5_34 h _ _ _ _ _).symm.trans hd)
    exact ⟨(i 3, i 4), Finset.mem_univ _, (ix5_inj _ _ _ _ _ _ _ _ _ _).2 ⟨ha.symm, hb.symm, hc.symm, rfl, rfl⟩⟩
  · exact fun _ _ => rfl

/-- Dropping the middle and the last of five coordinates. -/
theorem drop5_24 (h : (⟨5, ![n0, n1, n2, n3, n4]⟩ : Shape).ReducesTo [2, 4] ⟨3, ![n0, n1, n3]⟩)
    (a : Fin n0) (b : Fin n1) (c : Fin n2) (d : Fin n3) (e : Fin n4) : h.drop (ix5 a b c d e) = ix3 a b d := by
  funext k
  match k with
  | ⟨0, _⟩ => exact Fin.ext rfl
  | ⟨1, _⟩ => exact Fin.ext rfl
  | ⟨2, _⟩ => exact Fin.ext rfl

/-- A sum over the middle and the last of five axes. -/
theorem sum5_24 (h : (⟨5, ![n0, n1, n2, n3, n4]⟩ : Shape).ReducesTo [2, 4] ⟨3, ![n0, n1, n3]⟩)
    (v : (⟨5, ![n0, n1, n2, n3, n4]⟩ : Shape).Idx → EReal) (z : EReal) (a : Fin n0) (b : Fin n1) (d : Fin n3) :
    Ideal.hostReduceAdd h v z (ix3 a b d) = z + ∑ c : Fin n2, ∑ e : Fin n4, v (ix5 a b c d e) := by
  refine (congrArg (z + ·) (Finset.sum_bij (fun (p : Fin n2 × Fin n4) _ => ix5 a b p.1 d p.2) ?_ ?_ ?_ ?_).symm).trans
    (congrArg (z + ·) (Fintype.sum_prod_type fun p : Fin n2 × Fin n4 => v (ix5 a b p.1 d p.2)))
  · exact fun p _ => Finset.mem_filter.2 ⟨Finset.mem_univ _, drop5_24 h a b p.1 d p.2⟩
  · exact fun p _ p' _ hp => Prod.ext ((ix5_inj _ _ _ _ _ _ _ _ _ _).1 hp).2.2.1 ((ix5_inj _ _ _ _ _ _ _ _ _ _).1 hp).2.2.2.2
  · intro i hi
    have hd := (Finset.mem_filter.1 hi).2
    rw [eq_ix5 i] at hd ⊢
    obtain ⟨ha, hb, hc⟩ := (ix3_inj _ _ _ _ _ _).1 ((drop5_24 h _ _ _ _ _).symm.trans hd)
    exact ⟨(i 2, i 4), Finset.mem_univ _, (ix5_inj _ _ _ _ _ _ _ _ _ _).2 ⟨ha.symm, hb.symm, rfl, hc.symm, rfl⟩⟩
  · exact fun _ _ => rfl

end Cert.Sample

end
-- ==== Proof.RefGrid.lean ====
module

public import proofs.«01_k».proof.Proof.RefIn
public import proofs.«01_k».proof.Proof.Sums

/-! # What the reference returns for the grid: per sample, three differences of sums over corners -/

@[expose] public section

set_option maxRecDepth 16384

noncomputable section

namespace Cert.ReferenceIdeal.Sampled

open Cert.ReferenceIdeal Cert.ReferenceIdeal.Gen Cert.ReferenceIdeal.Read
open Idealize.ShloMosaic Cert.Sample

variable (x0 : S4x32x32x32x32.Idx → EReal) (x1 : S4x32x64x64x64.Idx → EReal) (x2 : S4x32x32x32x3.Idx → EReal)

/-- The input at a voxel against the incoming gradient of a sample, over the channels. -/
def against (n : Fin 4) (P : Fin 32768) (z y x : Fin 64) : EReal := ∑ c : Fin 32, x1 (ix5 n c z y x) * goAt x0 n P c

/-- The same at a corner, where the corner is inside. -/
def dot (n : Fin 4) (P : Fin 32768) (dz dy dx : Fin 2) : EReal :=
  against x0 x1 n P (pos x2 n P 2 dz) (pos x2 n P 1 dy) (pos x2 n P 0 dx) * ((iq x2 n P 0 dx * iq x2 n P 1 dy) * iq x2 n P 2 dz)

/-- The terms of that sum. -/
theorem term_at (n : Fin 4) (P : Fin 32768) (dz dy dx : Fin 2) (c : Fin 32) :
    val_main_v145 (F := Ideal) x0 x1 x2 (ix6 n P dz dy dx c)
      = x1 (ix5 n c (pos x2 n P 2 dz) (pos x2 n P 1 dy) (pos x2 n P 0 dx)) * goAt x0 n P c := by
  have hg := gathered x1 x2 n P dz dy dx c
  pointwise [val_main_v145, val_main_v144, val_main_v143, val_main_v142]
  rw [hg]
  rfl

/-- The incoming gradient against the input at a corner, summed over channels, with its unit axis. -/
theorem against_at (n : Fin 4) (P : Fin 32768) (dz dy dx : Fin 2) :
    val_main_v147 (F := Ideal) x0 x1 x2 (ix6 n P dz dy dx 0)
      = against x0 x1 n P (pos x2 n P 2 dz) (pos x2 n P 1 dy) (pos x2 n P 0 dx) := by
  have hg := term_at x0 x1 x2 n P dz dy dx
  pointwise [val_main_v147, val_main_v146, val_main_cst_31]
  refine (sum6_5 _ _ _ n P dz dy dx).trans ((zero_add _).trans ?_)
  exact Finset.sum_congr rfl fun c _ => hg c

/-- The same, without the unit axis. -/
theorem unit_at (n : Fin 4) (P : Fin 32768) (dz dy dx : Fin 2) :
    val_main_v150 (F := Ideal) x0 x1 x2 (ix5 n P dz dy dx)
      = against x0 x1 n P (pos x2 n P 2 dz) (pos x2 n P 1 dy) (pos x2 n P 0 dx) := by
  pointwise [val_main_v150, val_main_cst_32]
  refine (sum6_5 _ _ _ n P dz dy dx).trans ((zero_add _).trans ?_)
  exact (Fin.sum_univ_one _).trans (against_at x0 x1 x2 n P dz dy dx)

/-- The same, nothing where the corner is outside. -/
theorem dot_at (n : Fin 4) (P : Fin 32768) (dz dy dx : Fin 2) :
    val_main_v151 (F := Ideal) x0 x1 x2 (ix5 n P dz dy dx) = dot x0 x1 x2 n P dz dy dx := by
  have hi := insideAll x2 n P dz dy dx
  have hg := unit_at x0 x1 x2 n P dz dy dx
  pointwise [val_main_v151]
  rw [hg, hi]
  rfl

/-- A dot of a corner under the weights along `x` and `y`. -/
theorem face_at (n : Fin 4) (P : Fin 32768) (dz dy dx : Fin 2) :
    val_main_v153 (F := Ideal) x0 x1 x2 (ix5 n P dz dy dx) = (wq x2 n P 0 dx * wq x2 n P 1 dy) * dot x0 x1 x2 n P dz dy dx := by
  have ht := dot_at x0 x1 x2 n P dz dy dx
  have hx := weightX x2 n P dx
  have hy := weightY x2 n P dy
  pointwise [val_main_v153, val_main_v152, val_main_v125, val_main_v124, val_main_v123]
  rw [ht, hx, hy]
  rfl

/-- The sum over the corners of one face along `z`, under the weights along `x` and `y`. -/
theorem faces_at (n : Fin 4) (P : Fin 32768) (d : Fin 2) :
    val_main_v155 (F := Ideal) x0 x1 x2 (ix5 n P d 0 0)
      = ∑ dy : Fin 2, ∑ dx : Fin 2, (wq x2 n P 0 dx * wq x2 n P 1 dy) * dot x0 x1 x2 n P d dy dx := by
  pointwise [val_main_v155, val_main_v154, val_main_cst_33]
  refine (sum5_34 _ _ _ n P d).trans ((zero_add _).trans ?_)
  exact Finset.sum_congr rfl fun dy _ => Finset.sum_congr rfl fun dx _ => face_at x0 x1 x2 n P d dy dx

/-- The sums over the corners of one side along `z`. -/
theorem sideZ_at (n : Fin 4) (P : Fin 32768) (d : Fin 2) :
    val_main_v160 (F := Ideal) x0 x1 x2 (ix3 n P d)
      = ∑ dy : Fin 2, ∑ dx : Fin 2, (wq x2 n P 0 dx * wq x2 n P 1 dy) * dot x0 x1 x2 n P d dy dx := by
  pointwise [val_main_v160, val_main_cst_35]
  refine (sum5_34 _ _ _ n P d).trans ((zero_add _).trans ?_)
  exact (Fin.sum_univ_one _).trans ((Fin.sum_univ_one _).trans (faces_at x0 x1 x2 n P d))

/-- The sums over `z`, weighted. -/
theorem plane_at (n : Fin 4) (P : Fin 32768) (dy dx : Fin 2) :
    val_main_v159 (F := Ideal) x0 x1 x2 (ix5 n P 0 dy dx) = ∑ dz : Fin 2, dot x0 x1 x2 n P dz dy dx * wq x2 n P 2 dz := by
  have ht := fun dz dy dx => dot_at x0 x1 x2 n P dz dy dx
  have hz := weightZ x2 n P
  pointwise [val_main_v159, val_main_v158, val_main_cst_34, val_main_v157, val_main_v156]
  simp only [ht, hz]
  rfl

/-- Those sums under the weights along `x`. -/
theorem lineY_at (n : Fin 4) (P : Fin 32768) (d : Fin 2) :
    val_main_v170 (F := Ideal) x0 x1 x2 (ix5 n P 0 d 0)
      = ∑ dx : Fin 2, wq x2 n P 0 dx * ∑ dz : Fin 2, dot x0 x1 x2 n P dz d dx * wq x2 n P 2 dz := by
  have ht := plane_at x0 x1 x2 n P
  have hx := weightX x2 n P
  pointwise [val_main_v170, val_main_v169, val_main_cst_36, val_main_v168, val_main_v167]
  simp only [ht, hx]
  rfl

/-- The sums over the corners of one side along `y`. -/
theorem sideY_at (n : Fin 4) (P : Fin 32768) (d : Fin 2) :
    val_main_v175 (F := Ideal) x0 x1 x2 (ix3 n P d)
      = ∑ dx : Fin 2, wq x2 n P 0 dx * ∑ dz : Fin 2, dot x0 x1 x2 n P dz d dx * wq x2 n P 2 dz := by
  pointwise [val_main_v175, val_main_cst_38]
  refine (sum5_24 _ _ _ n P d).trans ((zero_add _).trans ?_)
  exact (Fin.sum_univ_one _).trans ((Fin.sum_univ_one _).trans (lineY_at x0 x1 x2 n P d))

/-- The sums over the corners of one side along `x`. -/
theorem sideX_at (n : Fin 4) (P : Fin 32768) (d : Fin 2) :
    val_main_v182 (F := Ideal) x0 x1 x2 (ix3 n P d)
      = ∑ dy : Fin 2, (∑ dz : Fin 2, dot x0 x1 x2 n P dz dy d * wq x2 n P 2 dz) * wq x2 n P 1 dy := by
  have ht := plane_at x0 x1 x2 n P
  have hy := weightY x2 n P
  pointwise [val_main_v182, val_main_cst_39, val_main_v174, val_main_v173, val_main_cst_37, val_main_v172, val_main_v171]
  simp only [Finset.univ_unique, Finset.sum_singleton, ht, hy]
  rfl

/-- The difference of the two sides in the scale of the grid. -/
def scaled (a b : EReal) : EReal := ((a + -b) * Ideal.ofBits .f32 0x427C0000#32) * Ideal.ofBits .f32 0x3F000000#32

/-- The `z` gradient is the scaled difference of the upper and the lower face. -/
theorem gz_at (n : Fin 4) (P : Fin 32768) :
    val_main_v194 (F := Ideal) x0 x1 x2 (ix2 n P)
      = scaled (val_main_v160 (F := Ideal) x0 x1 x2 (ix3 n P 1)) (val_main_v160 (F := Ideal) x0 x1 x2 (ix3 n P 0)) := by
  pointwise [val_main_v194, val_main_v193, val_main_cst_42, val_main_v192, val_main_v191, val_main_cst_41, val_main_v166, val_main_v165,
    val_main_v164, val_main_v163, val_main_v162, val_main_v161]
  rfl

/-- The `y` gradient is the scaled difference of the upper and the lower face. -/
theorem gy_at (n : Fin 4) (P : Fin 32768) :
    val_main_v200 (F := Ideal) x0 x1 x2 (ix2 n P)
      = scaled (val_main_v175 (F := Ideal) x0 x1 x2 (ix3 n P 1)) (val_main_v175 (F := Ideal) x0 x1 x2 (ix3 n P 0)) := by
  pointwise [val_main_v200, val_main_v199, val_main_cst_45, val_main_v198, val_main_v197, val_main_cst_44, val_main_v181, val_main_v180,
    val_main_v179, val_main_v178, val_main_v177, val_main_v176]
  rfl

/-- The `x` gradient is the scaled difference of the upper and the lower face. -/
theorem gx_at (n : Fin 4) (P : Fin 32768) :
    val_main_v207 (F := Ideal) x0 x1 x2 (ix2 n P)
      = scaled (val_main_v182 (F := Ideal) x0 x1 x2 (ix3 n P 1)) (val_main_v182 (F := Ideal) x0 x1 x2 (ix3 n P 0)) := by
  pointwise [val_main_v207, val_main_v206, val_main_cst_48, val_main_v205, val_main_v204, val_main_cst_47, val_main_v188, val_main_v187,
    val_main_v186, val_main_v185, val_main_v184, val_main_v183]
  rfl

/-- Two spellings of one choice. -/
theorem dite_ite {p q : Prop} [Decidable p] [Decidable q] (a b : EReal) (h : p ↔ q) :
    (if _ : p then a else b) = if q then a else b := by
  by_cases hp : p
  · rw [dif_pos hp, if_pos (h.1 hp)]
  · rw [dif_neg hp, if_neg fun hq => hp (h.2 hq)]

/-- The three columns of a sample come from the three axes. -/
theorem column_at (n : Fin 4) (P : Fin 32768) (q : Fin 3) :
    val_main_v210 (F := Ideal) x0 x1 x2 (ix3 n P q)
      = ((if q.val = 2 then val_main_v194 (F := Ideal) x0 x1 x2 (ix2 n P) else 0)
          + (if q.val = 1 then val_main_v200 (F := Ideal) x0 x1 x2 (ix2 n P) else 0))
        + (if q.val = 0 then val_main_v207 (F := Ideal) x0 x1 x2 (ix2 n P) else 0) := by
  have h3 : val_main_cst_43 (F := Ideal) (Shape.Idx.first h_S_) = 0 := by pointwise [val_main_cst_43]
  have h6 : val_main_cst_46 (F := Ideal) (Shape.Idx.first h_S_) = 0 := by pointwise [val_main_cst_46]
  have h9 : val_main_cst_49 (F := Ideal) (Shape.Idx.first h_S_) = 0 := by pointwise [val_main_cst_49]
  have hq := q.isLt
  have hP := P.isLt
  pointwise [val_main_v210, val_main_v209, val_main_v208, val_main_v203, val_main_v202, val_main_v201, val_main_v196, val_main_v195]
  rw [h3, h6, h9]
  exact congrArg₂ (· + ·) (congrArg₂ (· + ·) (dite_ite _ _ (by omega)) (dite_ite _ _ (by omega))) (dite_ite _ _ (by omega))

/-- The rows of the result are the samples. -/
theorem grid_at (n : Fin 4) (d h w : Fin 32) (q : Fin 3) :
    val_main_v211 (F := Ideal) x0 x1 x2 (ix5 n d h w q)
      = val_main_v210 (F := Ideal) x0 x1 x2 (ix3 n ⟨d.val * 1024 + h.val * 32 + w.val, by have := d.isLt; have := h.isLt; have := w.isLt; omega⟩ q) := by
  pointwise [val_main_v211]

/-- The number of the sample at a place of the result. -/
def at3 (d h w : Fin 32) : Fin 32768 := ⟨d.val * 1024 + h.val * 32 + w.val, by have := d.isLt; have := h.isLt; have := w.isLt; omega⟩

/-- The gradient along `z`. -/
theorem gradGrid2 (n : Fin 4) (d h w : Fin 32) :
    val_main_v211 (F := Ideal) x0 x1 x2 (ix5 n d h w 2)
      = scaled (∑ dy : Fin 2, ∑ dx : Fin 2, (wq x2 n (at3 d h w) 0 dx * wq x2 n (at3 d h w) 1 dy) * dot x0 x1 x2 n (at3 d h w) 1 dy dx)
          (∑ dy : Fin 2, ∑ dx : Fin 2, (wq x2 n (at3 d h w) 0 dx * wq x2 n (at3 d h w) 1 dy) * dot x0 x1 x2 n (at3 d h w) 0 dy dx) := by
  refine (grid_at x0 x1 x2 n d h w 2).trans ((column_at x0 x1 x2 n (at3 d h w) 2).trans ?_)
  rw [if_pos (by decide), if_neg (by decide), if_neg (by decide), add_zero, add_zero, gz_at, sideZ_at, sideZ_at]

/-- The gradient along `y`. -/
theorem gradGrid1 (n : Fin 4) (d h w : Fin 32) :
    val_main_v211 (F := Ideal) x0 x1 x2 (ix5 n d h w 1)
      = scaled (∑ dx : Fin 2, wq x2 n (at3 d h w) 0 dx * ∑ dz : Fin 2, dot x0 x1 x2 n (at3 d h w) dz 1 dx * wq x2 n (at3 d h w) 2 dz)
          (∑ dx : Fin 2, wq x2 n (at3 d h w) 0 dx * ∑ dz : Fin 2, dot x0 x1 x2 n (at3 d h w) dz 0 dx * wq x2 n (at3 d h w) 2 dz) := by
  refine (grid_at x0 x1 x2 n d h w 1).trans ((column_at x0 x1 x2 n (at3 d h w) 1).trans ?_)
  rw [if_neg (by decide), if_pos (by decide), if_neg (by decide), add_zero, zero_add, gy_at, sideY_at, sideY_at]

/-- The gradient along `x`. -/
theorem gradGrid0 (n : Fin 4) (d h w : Fin 32) :
    val_main_v211 (F := Ideal) x0 x1 x2 (ix5 n d h w 0)
      = scaled (∑ dy : Fin 2, (∑ dz : Fin 2, dot x0 x1 x2 n (at3 d h w) dz dy 1 * wq x2 n (at3 d h w) 2 dz) * wq x2 n (at3 d h w) 1 dy)
          (∑ dy : Fin 2, (∑ dz : Fin 2, dot x0 x1 x2 n (at3 d h w) dz dy 0 * wq x2 n (at3 d h w) 2 dz) * wq x2 n (at3 d h w) 1 dy) := by
  refine (grid_at x0 x1 x2 n d h w 0).trans ((column_at x0 x1 x2 n (at3 d h w) 0).trans ?_)
  rw [if_neg (by decide), if_neg (by decide), if_pos (by decide), add_zero, zero_add, gx_at, sideX_at, sideX_at]

end Cert.ReferenceIdeal.Sampled

end
-- ==== Proof.Maths.lean ====
module

public import proofs.«01_k».proof.Proof.Taps

/-! # The two equations of one sample: sums over all positions against sums over its eight corners -/

@[expose] public section

namespace Cert.Sample

open Idealize.ShloMosaic

/-- The share of a sample at a voxel is that of its corners that lie there. -/
theorem share_eq (cz cy cx : BitVec 32) (tz ty tx : EReal) (z y x : Fin 64) (r : EReal) :
    (tapW cz tz (BitVec.ofNat 32 z.val) * tapW cy ty (BitVec.ofNat 32 y.val)) * (tapW cx tx (BitVec.ofNat 32 x.val) * r)
      = ∑ dz : Fin 2, ∑ dy : Fin 2, ∑ dx : Fin 2,
        if place (corner cz dz) = z ∧ place (corner cy dy) = y ∧ place (corner cx dx) = x then
          r * (((wt tx dx * wt ty dy) * wt tz dz) * ((ind cx dx * ind cy dy) * ind cz dz))
        else 0 := by
  rw [mul_assoc, tapW_mul]
  refine Finset.sum_congr rfl fun dz _ => ?_
  by_cases hz : place (corner cz dz) = z
  swap
  · rw [if_neg hz]
    exact (Finset.sum_eq_zero fun dy _ => Finset.sum_eq_zero fun dx _ => if_neg fun h => hz h.1).symm
  rw [if_pos hz, mul_left_comm, tapW_mul]
  refine Finset.sum_congr rfl fun dy _ => ?_
  by_cases hy : place (corner cy dy) = y
  swap
  · rw [if_neg hy]
    exact (Finset.sum_eq_zero fun dx _ => if_neg fun h => hy h.2.1).symm
  rw [if_pos hy, mul_left_comm (eW cz tz dz), mul_left_comm (eW cy ty dy), tapW_mul]
  refine Finset.sum_congr rfl fun dx _ => ?_
  by_cases hx : place (corner cx dx) = x
  swap
  · rw [if_neg hx, if_neg fun h => hx h.2.2]
  rw [if_pos hx, if_pos ⟨hz, hy, hx⟩]
  unfold eW
  ac_rfl

/-! ## Real numbers -/

/-- The sum of real numbers, taken among the extended reals. -/
theorem coe_total {ι : Type*} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- The numbers `A` of two corners, at the positions where the corners lie. -/
noncomputable def taps (p : Fin 2 → Fin 64) (A : Fin 2 → ℝ) (j : Fin 64) : ℝ := ∑ d : Fin 2, if p d = j then A d else 0

/-- A sum over the positions under them is a sum over the two corners. -/
theorem taps_pick (p : Fin 2 → Fin 64) (A : Fin 2 → ℝ) (f : Fin 64 → ℝ) : ∑ j, taps p A j * f j = ∑ d, A d * f (p d) := by
  simp only [taps, Fin.sum_univ_two, add_mul, Finset.sum_add_distrib, ite_mul, zero_mul, Finset.sum_ite_eq, Finset.mem_univ, if_true]

/-- The sum over voxels and channels under three such tables, one an axis. -/
theorem taps_sum (pz py px : Fin 2 → Fin 64) (Az Ay Ax : Fin 2 → ℝ) (I : Fin 64 → Fin 64 → Fin 64 → Fin 32 → ℝ) (G : Fin 32 → ℝ) :
    (∑ x, ∑ c, (∑ z, ∑ y, (taps pz Az z * taps py Ay y) * I z y x c) * (taps px Ax x * G c))
      = ∑ dx, Ax dx * ∑ dz, Az dz * ∑ dy, Ay dy * ∑ c, I (pz dz) (py dy) (px dx) c * G c := by
  have h1 : ∀ x c, (∑ z, ∑ y, (taps pz Az z * taps py Ay y) * I z y x c) = ∑ dz, Az dz * ∑ dy, Ay dy * I (pz dz) (py dy) x c := fun x c => by
    rw [← taps_pick pz Az fun z => ∑ dy, Ay dy * I z (py dy) x c]
    refine Finset.sum_congr rfl fun z _ => ?_
    rw [← taps_pick py Ay fun y => I z y x c, Finset.mul_sum]
    exact Finset.sum_congr rfl fun y _ => mul_assoc _ _ _
  have h2 : ∀ x, (∑ c, (∑ z, ∑ y, (taps pz Az z * taps py Ay y) * I z y x c) * (taps px Ax x * G c))
      = taps px Ax x * ∑ dz, Az dz * ∑ dy, Ay dy * ∑ c, I (pz dz) (py dy) x c * G c := fun x => by
    simp only [h1, Fin.sum_univ_two, mul_add, add_mul, Finset.sum_add_distrib, Finset.mul_sum]
    simp only [← Finset.sum_add_distrib]
    exact Finset.sum_congr rfl fun c _ => by ring
  simp only [h2]
  exact taps_pick px Ax _

/-- A sum over the rows is a sum over `z` and `y`. -/
theorem sum_pairs (a b N : ℕ) (hb : 0 < b) (hN : N = a * b) (f : Fin a → Fin b → ℝ) :
    ∑ R : Fin N, f ⟨R.val / b, Nat.div_lt_of_lt_mul (lt_of_lt_of_eq R.isLt (hN.trans (mul_comm a b)))⟩ ⟨R.val % b, Nat.mod_lt _ hb⟩
      = ∑ z, ∑ y, f z y := by
  subst hN
  rw [← Fintype.sum_prod_type' f]
  refine Fintype.sum_equiv (finProdFinEquiv (m := a) (n := b)).symm _ _ fun R => ?_
  rfl

/-! ## The differences the reference takes -/

/-- Minus one for the lower corner, one for the upper. -/
noncomputable def sgnR (d : Fin 2) : ℝ := if d = 0 then -1 else 1

/-- The sign of a corner is a real number. -/
theorem sgn_coe (d : Fin 2) : sgn d = (sgnR d : EReal) := by
  unfold sgn sgnR
  split
  · rfl
  · rfl

/-- The scaled difference of two real numbers. -/
theorem scaled_coe (a b : ℝ) :
    (((a : EReal) + -(b : EReal)) * Ideal.ofBits .f32 0x427C0000#32) * Ideal.ofBits .f32 0x3F000000#32 = (((a - b) * 31.5 : ℝ) : EReal) := by
  rw [ofBits_63, ofBits_half, ← EReal.coe_neg, ← EReal.coe_add, ← EReal.coe_mul, ← EReal.coe_mul]
  congr 1
  ring

section sides

variable (wx wy wz ix iy iz : Fin 2 → EReal) (ex ey ez jx jy jz : Fin 2 → ℝ) (D : Fin 2 → Fin 2 → Fin 2 → ℝ)
  (hx : ∀ d, wx d * ix d = (ex d : EReal)) (hy : ∀ d, wy d * iy d = (ey d : EReal)) (hz : ∀ d, wz d * iz d = (ez d : EReal))
  (ux : ∀ d, ix d = (jx d : EReal)) (uy : ∀ d, iy d = (jy d : EReal)) (uz : ∀ d, iz d = (jz d : EReal))

include hx hy uz in
/-- One side along `z`: the weights along `x` and `y` are real where the corner is inside, and count for nothing elsewhere. -/
theorem side_z (d : Fin 2) :
    (∑ dy : Fin 2, ∑ dx : Fin 2, (wx dx * wy dy) * ((D d dy dx : EReal) * ((ix dx * iy dy) * iz d)))
      = ((∑ dy, ∑ dx, (ex dx * ey dy) * (D d dy dx * jz d) : ℝ) : EReal) := by
  rw [coe_total]
  refine Finset.sum_congr rfl fun dy _ => ?_
  rw [coe_total]
  refine Finset.sum_congr rfl fun dx _ => ?_
  rw [EReal.coe_mul, EReal.coe_mul, EReal.coe_mul, ← hx, ← hy, ← uz]
  ac_rfl

include hz ux uy in
/-- The sum along `z` under the weights. -/
theorem along_z (dy dx : Fin 2) :
    (∑ dz : Fin 2, ((D dz dy dx : EReal) * ((ix dx * iy dy) * iz dz)) * wz dz)
      = ((jx dx * (jy dy * ∑ dz, D dz dy dx * ez dz) : ℝ) : EReal) := by
  rw [← mul_assoc, Finset.mul_sum, coe_total]
  refine Finset.sum_congr rfl fun dz _ => ?_
  rw [EReal.coe_mul, EReal.coe_mul, EReal.coe_mul, ← hz, ← ux, ← uy]
  ac_rfl

include hx hz ux uy in
/-- One side along `y`. -/
theorem side_y (d : Fin 2) :
    (∑ dx : Fin 2, wx dx * ∑ dz : Fin 2, ((D dz d dx : EReal) * ((ix dx * iy d) * iz dz)) * wz dz)
      = ((∑ dx, ex dx * (jy d * ∑ dz, D dz d dx * ez dz) : ℝ) : EReal) := by
  rw [coe_total]
  refine Finset.sum_congr rfl fun dx _ => ?_
  rw [along_z wz ix iy iz ez jx jy D hz ux uy d dx, EReal.coe_mul, ← ux, ← mul_assoc, hx, ← EReal.coe_mul]

include hy hz ux uy in
/-- One side along `x`. -/
theorem side_x (d : Fin 2) :
    (∑ dy : Fin 2, (∑ dz : Fin 2, ((D dz dy d : EReal) * ((ix d * iy dy) * iz dz)) * wz dz) * wy dy)
      = ((∑ dy, ey dy * (jx d * ∑ dz, D dz dy d * ez dz) : ℝ) : EReal) := by
  rw [coe_total]
  refine Finset.sum_congr rfl fun dy _ => ?_
  rw [along_z wz ix iy iz ez jx jy D hz ux uy dy d, mul_left_comm (jx d), EReal.coe_mul, ← uy, mul_comm _ (wy dy), ← mul_assoc, hy, ← EReal.coe_mul]

include hx hy uz in
/-- The gradient along `z`. -/
theorem diff_z :
    ((((∑ dy : Fin 2, ∑ dx : Fin 2, (wx dx * wy dy) * ((D 1 dy dx : EReal) * ((ix dx * iy dy) * iz 1)))
        + -(∑ dy : Fin 2, ∑ dx : Fin 2, (wx dx * wy dy) * ((D 0 dy dx : EReal) * ((ix dx * iy dy) * iz 0))))
        * Ideal.ofBits .f32 0x427C0000#32) * Ideal.ofBits .f32 0x3F000000#32)
      = (((∑ dx, ex dx * ∑ dz, (sgnR dz * jz dz) * ∑ dy, ey dy * D dz dy dx) * 31.5 : ℝ) : EReal) := by
  rw [side_z wx wy ix iy iz ex ey jz D hx hy uz 1, side_z wx wy ix iy iz ex ey jz D hx hy uz 0, scaled_coe]
  congr 2
  simp only [Fin.sum_univ_two, sgnR, if_true, one_ne_zero, if_false]
  ring

include hx hz ux uy in
/-- The gradient along `y`. -/
theorem diff_y :
    ((((∑ dx : Fin 2, wx dx * ∑ dz : Fin 2, ((D dz 1 dx : EReal) * ((ix dx * iy 1) * iz dz)) * wz dz)
        + -(∑ dx : Fin 2, wx dx * ∑ dz : Fin 2, ((D dz 0 dx : EReal) * ((ix dx * iy 0) * iz dz)) * wz dz))
        * Ideal.ofBits .f32 0x427C0000#32) * Ideal.ofBits .f32 0x3F000000#32)
      = (((∑ dx, ex dx * ∑ dz, ez dz * ∑ dy, (sgnR dy * jy dy) * D dz dy dx) * 31.5 : ℝ) : EReal) := by
  rw [side_y wx wz ix iy iz ex ez jx jy D hx hz ux uy 1, side_y wx wz ix iy iz ex ez jx jy D hx hz ux uy 0, scaled_coe]
  congr 2
  simp only [Fin.sum_univ_two, sgnR, if_true, one_ne_zero, if_false]
  ring

include hy hz ux uy in
/-- The gradient along `x`. -/
theorem diff_x :
    ((((∑ dy : Fin 2, (∑ dz : Fin 2, ((D dz dy 1 : EReal) * ((ix 1 * iy dy) * iz dz)) * wz dz) * wy dy)
        + -(∑ dy : Fin 2, (∑ dz : Fin 2, ((D dz dy 0 : EReal) * ((ix 0 * iy dy) * iz dz)) * wz dz) * wy dy))
        * Ideal.ofBits .f32 0x427C0000#32) * Ideal.ofBits .f32 0x3F000000#32)
      = (((∑ dx, (sgnR dx * jx dx) * ∑ dz, ez dz * ∑ dy, ey dy * D dz dy dx) * 31.5 : ℝ) : EReal) := by
  rw [side_x wy wz ix iy iz ey ez jx jy D hy hz ux uy 1, side_x wy wz ix iy iz ey ez jx jy D hy hz ux uy 0, scaled_coe]
  congr 2
  simp only [Fin.sum_univ_two, sgnR, if_true, one_ne_zero, if_false]
  ring

end sides

end Cert.Sample

end
-- ==== Proof.Equal.lean ====
module

public import proofs.«01_k».proof.Proof.HostK
public import proofs.«01_k».proof.Proof.RefGrid
public import proofs.«01_k».proof.Proof.Maths

/-! # The two programs' results are equal, sample by sample -/

@[expose] public section

set_option maxRecDepth 16384

noncomputable section

namespace Cert.Sample

open Idealize.ShloMosaic

/-- A table of real numbers at the positions of two corners. -/
theorem taps_coe (p : Fin 2 → Fin 64) (A' : Fin 2 → EReal) (A : Fin 2 → ℝ) (h : ∀ d, A' d = (A d : EReal)) (j : Fin 64) :
    (∑ d : Fin 2, if p d = j then A' d else 0) = (taps p A j : EReal) := by
  unfold taps
  rw [coe_total]
  refine Finset.sum_congr rfl fun d _ => ?_
  split
  · exact h d
  · rfl

end Cert.Sample

namespace Cert.KernelIdeal.Launched

open Cert.KernelIdeal.Gen
open Idealize.ShloMosaic Idealize.ShloMosaic.TcCoe Cert.Sample

/-- What the second call computes for a sample, where every number in it is real. -/
theorem comp1_real (V : (c : Dev nD) → Valuation τ sig (Elt Ideal)) (c : Dev nD) (fz fy fx : Fin 4 → Fin 32768 → Fin 3 → ℕ → EReal)
    (n : Fin 4) (P : Fin 32768) (tz ty tx : Fin 64 → ℝ) (I : Fin 64 → Fin 64 → Fin 64 → Fin 32 → ℝ) (G : Fin 32 → ℝ)
    (hz : ∀ w : Fin 64, fz n P 2 w.val = (tz w : EReal)) (hy : ∀ w : Fin 64, fy n P 1 w.val = (ty w : EReal))
    (hx : ∀ w : Fin 64, fx n P 0 w.val = (tx w : EReal))
    (hI : ∀ (R : Fin 4096) (l : Fin 2048), inpA V c (ix3 n R l)
      = (I ⟨R.val / 64, by have := R.isLt; omega⟩ ⟨R.val % 64, by omega⟩ ⟨l.val / 32, by have := l.isLt; omega⟩ ⟨l.val % 32, by omega⟩ : EReal))
    (hG : ∀ q : Fin 32, goA V c (ix3 n P q) = (G q : EReal)) :
    comp1 V c fz fy fx (ix3 n P 0)
      = (((∑ x, ∑ q, (∑ z, ∑ y, (tz z * ty y) * I z y x q) * (tx x * G q)) * 31.5 : ℝ) : EReal) := by
  show (∑ l : Fin 2048, (∑ R : Fin 4096, tab fz fy n P R * inpA V c (ix3 n R l))
    * (fx n P 0 (l.val / 32) * goA V c (ix3 n P ⟨l.val % 32, Nat.mod_lt _ (by norm_num)⟩))) * Ideal.ofBits .f32 0x41FC0000#32 = _
  rw [ofBits_31_5, EReal.coe_mul]
  refine congrArg (· * _) ?_
  rw [← sum_pairs 64 32 2048 (by decide) rfl fun x q => (∑ z, ∑ y, (tz z * ty y) * I z y x q) * (tx x * G q), coe_total]
  refine Finset.sum_congr rfl fun l _ => ?_
  rw [EReal.coe_mul, EReal.coe_mul]
  refine congrArg₂ (· * ·) ?_ (congrArg₂ (· * ·) (hx ⟨l.val / 32, by have := l.isLt; omega⟩) (hG _))
  rw [← sum_pairs 64 64 4096 (by decide) rfl fun z y => (tz z * ty y) * I z y ⟨l.val / 32, _⟩ ⟨l.val % 32, _⟩, coe_total]
  refine Finset.sum_congr rfl fun R _ => ?_
  rw [EReal.coe_mul, EReal.coe_mul]
  exact congrArg₂ (· * ·) (congrArg₂ (· * ·) (hz ⟨R.val / 64, by have := R.isLt; omega⟩) (hy ⟨R.val % 64, by omega⟩)) (hI R l)

variable (m : (ℓ : Loc nD τ sig) → Buf (Elt Ideal) ℓ)

/-- The arguments of a device, as arrays. -/
def goM (c : Dev nD) : S4x32x32x32x32.Idx → EReal := m ((c : Thread nD τ).loc main_arg0)
/-- The input the kernel starts with. -/
def inpM (c : Dev nD) : S4x32x64x64x64.Idx → EReal := m ((c : Thread nD τ).loc main_arg1)
/-- The grid the kernel starts with. -/
def gridM (c : Dev nD) : S4x32x32x32x3.Idx → EReal := m ((c : Thread nD τ).loc main_arg2)

open Cert.ReferenceIdeal.Sampled in
/-- Both programs return the same gradient of the input. -/
theorem gradInput_eq (c : Dev nD) (i : S4x32x64x64x64.Idx) :
    (W2 m c (Proc.devRef .tc main_v0_0) : S4x32x64x64x64.Idx → EReal) i
      = Cert.ReferenceIdeal.Read.val_main_v190 (F := Ideal) (goM m c) (gridM m c) i := by
  obtain ⟨n, ch, z, y, x, rfl⟩ : ∃ n ch z y x, i = ix5 n ch z y x := ⟨_, _, _, _, _, eq_ix5 i⟩
  have hl : (∀ i : S4x4096x2048.Idx, total0 (W0 m) c i = ∑ P : Fin 32768, share0 (W0 m) c (i 0) (i 1).val (i 2).val P) := fun _ => rfl
  refine (gradInput_at m c n ch z y x).trans ((hl _).trans (Eq.trans ?_ (gradInput (goM m c) (gridM m c) n ch z y x).symm))
  refine Finset.sum_congr rfl fun P _ => ?_
  have hg : ∀ q, gridA (W0 m) c (ix3 n P q) = gAt (gridM m c) n P q := fun q => gridA_at m c n P q
  have ho : ∀ q, goA (W0 m) c (ix3 n P q) = goAt (goM m c) n P q := fun q => goA_at m c n P q
  refine Eq.trans ?_ (share_eq (cell (gAt (gridM m c) n P 2)) (cell (gAt (gridM m c) n P 1)) (cell (gAt (gridM m c) n P 0))
    (frac (gAt (gridM m c) n P 2)) (frac (gAt (gridM m c) n P 1)) (frac (gAt (gridM m c) n P 0)) z y x (goAt (goM m c) n P ch))
  have hz := z.isLt
  have hy := y.isLt
  have hx := x.isLt
  have hc := ch.isLt
  have e1 : (z.val * 64 + y.val) / 64 = z.val := by omega
  have e2 : (z.val * 64 + y.val) % 64 = y.val := by omega
  have e3 : (x.val * 32 + ch.val) / 32 = x.val := by omega
  have e4 : (⟨(x.val * 32 + ch.val) % 32, Nat.mod_lt _ (by norm_num)⟩ : Fin 32) = ch := Fin.ext (by show (x.val * 32 + ch.val) % 32 = _; omega)
  show share0 (W0 m) c n (z.val * 64 + y.val) (x.val * 32 + ch.val) P = _
  unfold share0
  rw [e1, e2, e3, e4, hg, hg, hg, ho]

section real

variable (c : Dev nD) (h0 : ∀ i, ∃ r : ℝ, goM m c i = r) (h1 : ∀ i, ∃ r : ℝ, inpM m c i = r)

open Cert.ReferenceIdeal.Sampled

include h0 h1 in
/-- The numbers of a sample that both programs work with are real. -/
theorem sample_real (n : Fin 4) (P : Fin 32768) :
    ∃ (e j : Fin 3 → Fin 2 → ℝ) (I : Fin 64 → Fin 64 → Fin 64 → Fin 32 → ℝ) (G : Fin 32 → ℝ),
      (∀ q d, wq (gridM m c) n P q d * iq (gridM m c) n P q d = (e q d : EReal))
      ∧ (∀ q d, iq (gridM m c) n P q d = (j q d : EReal))
      ∧ (∀ z y x q, inpM m c (ix5 n q z y x) = (I z y x q : EReal))
      ∧ (∀ q, goAt (goM m c) n P q = (G q : EReal)) := by
  choose e he using fun q d => eW_real (gAt (gridM m c) n P q) d
  choose j hj using fun q d => ind_real (cell (gAt (gridM m c) n P q)) d
  choose I hI using fun z y x q => h1 (ix5 n q z y x)
  choose G hG using fun q => h0 (ix5 n q ⟨P.val / 1024, by have := P.isLt; omega⟩ ⟨P.val / 32 % 32, by omega⟩ ⟨P.val % 32, by omega⟩)
  exact ⟨e, j, I, G, he, hj, hI, hG⟩

variable (n : Fin 4) (P : Fin 32768) (e j : Fin 3 → Fin 2 → ℝ) (I : Fin 64 → Fin 64 → Fin 64 → Fin 32 → ℝ) (G : Fin 32 → ℝ)
  (he : ∀ q d, wq (gridM m c) n P q d * iq (gridM m c) n P q d = (e q d : EReal)) (hj : ∀ q d, iq (gridM m c) n P q d = (j q d : EReal))
  (hI : ∀ z y x q, inpM m c (ix5 n q z y x) = (I z y x q : EReal)) (hG : ∀ q, goAt (goM m c) n P q = (G q : EReal))

include he in
/-- The kernel's table of weights along an axis. -/
theorem wgt_real (q : Fin 3) (w : Fin 64) : wgt (W1 m) c n P q w.val = (taps (pos (gridM m c) n P q) (e q) w : EReal) := by
  have hg : gridA (W1 m) c (ix3 n P q) = gAt (gridM m c) n P q := (congrFun (gridA_keeps m c) _).trans (gridA_at m c n P q)
  unfold wgt
  rw [hg, tapW_eq]
  exact taps_coe (pos (gridM m c) n P q) _ (e q) (he q) w

include hj in
/-- The kernel's table of derivatives along an axis. -/
theorem der_real (q : Fin 3) (w : Fin 64) :
    der (W1 m) c n P q w.val = (taps (pos (gridM m c) n P q) (fun d => sgnR d * j q d) w : EReal) := by
  have hg : gridA (W1 m) c (ix3 n P q) = gAt (gridM m c) n P q := (congrFun (gridA_keeps m c) _).trans (gridA_at m c n P q)
  unfold der
  rw [hg, tapD_eq]
  refine taps_coe (pos (gridM m c) n P q) _ _ (fun d => ?_) w
  rw [EReal.coe_mul, ← sgn_coe, ← hj q d]
  rfl

include hI hG in
/-- A component of the second call from its three tables, as a sum over the corners. -/
theorem comp1_corners (fz fy fx : Fin 4 → Fin 32768 → Fin 3 → ℕ → EReal) (Az Ay Ax : Fin 2 → ℝ)
    (hz : ∀ w : Fin 64, fz n P 2 w.val = (taps (pos (gridM m c) n P 2) Az w : EReal))
    (hy : ∀ w : Fin 64, fy n P 1 w.val = (taps (pos (gridM m c) n P 1) Ay w : EReal))
    (hx : ∀ w : Fin 64, fx n P 0 w.val = (taps (pos (gridM m c) n P 0) Ax w : EReal)) :
    comp1 (W1 m) c fz fy fx (ix3 n P 0)
      = (((∑ dx, Ax dx * ∑ dz, Az dz * ∑ dy, Ay dy * ∑ q, I (pos (gridM m c) n P 2 dz) (pos (gridM m c) n P 1 dy) (pos (gridM m c) n P 0 dx) q * G q) * 31.5 : ℝ) : EReal) := by
  rw [comp1_real (W1 m) c fz fy fx n P _ _ _ I G hz hy hx (fun R l => (inpA_at m c n R l).trans (hI _ _ _ _))
    (fun q => ((congrFun (goA_keeps m c) _).trans (goA_at m c n P q)).trans (hG q)), taps_sum]

include hI hG in
/-- The reference's dot of a corner. -/
theorem dot_real (dz dy dx : Fin 2) :
    dot (goM m c) (inpM m c) (gridM m c) n P dz dy dx
      = ((∑ q, I (pos (gridM m c) n P 2 dz) (pos (gridM m c) n P 1 dy) (pos (gridM m c) n P 0 dx) q * G q : ℝ) : EReal)
        * ((iq (gridM m c) n P 0 dx * iq (gridM m c) n P 1 dy) * iq (gridM m c) n P 2 dz) := by
  unfold dot against
  rw [coe_total]
  refine congrArg (· * _) (Finset.sum_congr rfl fun q _ => ?_)
  rw [hI, hG, EReal.coe_mul]

end real

open Cert.ReferenceIdeal.Sampled in
/-- Both programs return the same gradient of the grid, where the incoming gradient and the input are real. -/
theorem gradGrid_eq (c : Dev nD) (h0 : ∀ i, ∃ r : ℝ, goM m c i = r) (h1 : ∀ i, ∃ r : ℝ, inpM m c i = r) (i : S4x32x32x32x3.Idx) :
    (W2 m c (Proc.devRef .tc main_v0_1) : S4x32x32x32x3.Idx → EReal) i
      = Cert.ReferenceIdeal.Read.val_main_v211 (F := Ideal) (goM m c) (inpM m c) (gridM m c) i := by
  obtain ⟨n, d, h, w, q, rfl⟩ : ∃ n d h w q, i = ix5 n d h w q := ⟨_, _, _, _, _, eq_ix5 i⟩
  obtain ⟨e, j, I, G, he, hj, hI, hG⟩ := sample_real m c h0 h1 n (at3 d h w)
  have hw := wgt_real m c n (at3 d h w) e he
  have hd := der_real m c n (at3 d h w) j hj
  have ht := fun dz dy dx => dot_real m c n (at3 d h w) I G hI hG dz dy dx
  match q with
  | ⟨0, _⟩ =>
    refine (gradGrid0_at m c n d h w).trans ((comp1_corners m c n (at3 d h w) I G hI hG _ _ _ _ _ _ (hw 2) (hw 1) (hd 0)).trans ?_)
    refine Eq.trans ?_ (gradGrid0 (goM m c) (inpM m c) (gridM m c) n d h w).symm
    unfold scaled
    simp only [ht]
    exact (diff_x (wq (gridM m c) n (at3 d h w) 1) (wq (gridM m c) n (at3 d h w) 2) _ _ _ (e 1) (e 2) (j 0) (j 1) _ (he 1) (he 2) (hj 0) (hj 1)).symm
  | ⟨1, _⟩ =>
    refine (gradGrid1_at m c n d h w).trans ((comp1_corners m c n (at3 d h w) I G hI hG _ _ _ _ _ _ (hw 2) (hd 1) (hw 0)).trans ?_)
    refine Eq.trans ?_ (gradGrid1 (goM m c) (inpM m c) (gridM m c) n d h w).symm
    unfold scaled
    simp only [ht]
    exact (diff_y (wq (gridM m c) n (at3 d h w) 0) (wq (gridM m c) n (at3 d h w) 2) _ _ _ (e 0) (e 2) (j 0) (j 1) _ (he 0) (he 2) (hj 0) (hj 1)).symm
  | ⟨2, _⟩ =>
    refine (gradGrid2_at m c n d h w).trans ((comp1_corners m c n (at3 d h w) I G hI hG _ _ _ _ _ _ (hd 2) (hw 1) (hw 0)).trans ?_)
    refine Eq.trans ?_ (gradGrid2 (goM m c) (inpM m c) (gridM m c) n d h w).symm
    unfold scaled
    simp only [ht]
    exact (diff_z (wq (gridM m c) n (at3 d h w) 0) (wq (gridM m c) n (at3 d h w) 1) _ _ _ (e 0) (e 1) (j 2) _ (he 0) (he 1) (hj 2)).symm

end Cert.KernelIdeal.Launched

end
-- ==== Proof.Finite.lean ====
module

public import proofs.«01_k».proof.Defs
public import Idealize.ShloMosaic.Lib.Pointwise
public import Idealize.ShloMosaic.PureOps.Reduce

/-! # The precondition, read: the incoming gradient and the input are real numbers -/

@[expose] public section

namespace Cert.Sample

open Idealize.ShloMosaic

/-- A conjunction of bits is one only if every bit is. -/
theorem bits_all {ι : Type*} (s : Finset ι) (f : ι → BitVec 1) (h : s.fold (IntOp.andi (w := 1)) 1#1 f = 1#1) : ∀ i ∈ s, f i = 1#1 := by
  classical
  induction s using Finset.induction_on with
  | empty => exact fun i hi => absurd hi (Finset.notMem_empty i)
  | insert a s ha ih =>
    rw [Finset.fold_insert ha] at h
    have hb : ∀ u v : BitVec 1, IntOp.andi u v = 1#1 → u = 1#1 ∧ v = 1#1 := by decide
    obtain ⟨h1, h2⟩ := hb _ _ h
    intro i hi
    rcases Finset.mem_insert.1 hi with rfl | hi
    · exact h1
    · exact ih h2 i hi

/-- What is smaller in size than infinity is a real number. -/
theorem real_of_size (x : EReal) (h : Ideal.cmp .olt (max x (-x)) (Ideal.ofBits .f32 0x7F800000#32) = 1#1) : ∃ r : ℝ, x = r := by
  have ht : Ideal.ofBits .f32 0x7F800000#32 = ⊤ := by simp [Ideal.ofBits, Ideal.ieee]
  rw [ht] at h
  induction x with
  | bot => simp [Ideal.cmp] at h
  | top => simp [Ideal.cmp] at h
  | coe r => exact ⟨r, rfl⟩

/-- The check of one array, over all its indices. -/
theorem real_of_check {s : Shape} (axes : List (Fin s.rank)) (x : s.Idx → EReal) (hb : Cert.Pre_finite.S_.BroadcastsInDim s (![] : Fin 0 → Fin s.rank))
    (hr : s.ReducesTo axes Cert.Pre_finite.S_) (hu : 0 < Cert.Pre_finite.S_.numel) (j : Cert.Pre_finite.S_.Idx)
    (h : Host.reduce IntOp.andi
      (cmpf (F := Ideal) .olt (Host.absf (F := Ideal) (φ := .f32) x) (broadcastInDim s ![] hb (constant (F := Ideal) Cert.Pre_finite.S_ .f32 0x7F800000#32)))
      (constantI Cert.Pre_finite.S_ 1 1#1) hr hu j = 1#1) (i : s.Idx) : ∃ r : ℝ, x i = r := by
  rw [Host.reduce_eq_fold] at h
  have hj : hr.drop i = j := funext fun a => a.elim0
  exact real_of_size _ (bits_all _ _ h i (Finset.mem_filter.2 ⟨Finset.mem_univ _, hj⟩))

end Cert.Sample

namespace Cert.KernelIdeal

open Idealize.ShloMosaic Cert.Sample

variable [hPre_finite : Cert.Pre_finite.Facts] (m : (ℓ : Loc nD τ sig) → Buf (Elt Ideal) ℓ)

/-- Under the precondition the incoming gradient and the input are real. -/
theorem real_args (h : Pre_KernelIdeal_finite m) (c : Dev nD) :
    (∀ i, ∃ r : ℝ, @Eq EReal ((m ((c.tc : Thread nD τ).loc main_arg0) : S4x32x32x32x32.Idx → EReal) i) (r : EReal))
    ∧ (∀ i, ∃ r : ℝ, @Eq EReal ((m ((c.tc : Thread nD τ).loc main_arg1) : S4x32x64x64x64.Idx → EReal) i) (r : EReal)) := by
  have h0 := congrFun (h c) (fun a => a.elim0)
  have hb : ∀ u v : BitVec 1, IntOp.andi u v = 1#1 → u = 1#1 ∧ v = 1#1 := by decide
  obtain ⟨h1, h2⟩ := hb _ _ h0
  exact ⟨fun i => real_of_check _ _ _ _ _ _ h1 i, fun i => real_of_check _ _ _ _ _ _ h2 i⟩

end Cert.KernelIdeal

end
-- ==== Proof.RefRun.lean ====
module

public import proofs.«01_k».proof.Proof.Gen.ReferenceIdeal.Read

/-! # A run of the reference ends with its two results, as functions of the arguments -/

@[expose] public section

set_option maxRecDepth 16384

noncomputable section

namespace Cert.ReferenceIdeal.Sampled

open Cert.ReferenceIdeal Cert.ReferenceIdeal.Gen Cert.ReferenceIdeal.Read
open Idealize.ShloMosaic Idealize.SL.Sem

/-- The two results and the unchanged arguments. -/
theorem ref_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      (r.2.mem ((c.tc : Thread nD τ).loc main_v190)
          = val_main_v190 (F := Ideal) (m ((c.tc : Thread nD τ).loc main_arg0)) (m ((c.tc : Thread nD τ).loc main_arg2))
        ∧ r.2.mem ((c.tc : Thread nD τ).loc main_v211)
          = val_main_v211 (F := Ideal) (m ((c.tc : Thread nD τ).loc main_arg0)) (m ((c.tc : Thread nD τ).loc main_arg1))
              (m ((c.tc : Thread nD τ).loc main_arg2)))
      ∧ (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)) :=
  (θ_run defs _ _).mono
    (fun _ h c => ⟨⟨(h c).1.trans (val_main_v190_eq (StableHlo.launchContents m c)), (h c).2.1.trans (val_main_v211_eq (StableHlo.launchContents m c))⟩, (h c).2.2⟩)
    (Cert.ReferenceIdeal.Value.run (F := Ideal) m g)

end Cert.ReferenceIdeal.Sampled

end
-- ==== Proof.lean ====
/- The claims of `Cert.Claim`, put together from the modules under proof/Proof/. -/
module

public import proofs.«01_k».proof.Defs
public import proofs.«01_k».proof.Proof.Frames
public import proofs.«01_k».proof.Proof.Equal
public import proofs.«01_k».proof.Proof.Finite
public import proofs.«01_k».proof.Proof.RefRun
public import proofs.«01_k».proof.Proof.Gen.Pre_finite

@[expose] public section

noncomputable section

namespace Cert.Proof

open Idealize.ShloMosaic Idealize.SL.Sem Cert.KernelIdeal.Launched

/-- Kernel and reference, run on the same arguments, end with the same two results: those of the kernel's own run. -/
theorem equal_results (hPre : Cert.Pre_finite.Facts) :
    algebraic_KernelIdeal_ReferenceIdeal_pre_finite (hKernelIdeal := Cert.KernelIdeal.Gen.facts)
      (hReferenceIdeal := Cert.ReferenceIdeal.Gen.facts) (hPre_finite := hPre) := by
  intro m g m' g' hpre hargs
  refine ⟨fun c => W2 m c (Proc.devRef .tc Cert.KernelIdeal.main_v0_0), fun c => W2 m c (Proc.devRef .tc Cert.KernelIdeal.main_v0_1), ?_, ?_⟩
  · exact (θ_run (Cert.KernelIdeal.defs (F := Ideal)) _ _).mono (fun r h c => ⟨(h.1 c).2.1, (h.1 c).2.2, (h.1 c).1⟩) (run_read m g)
  · refine (θ_run (Cert.ReferenceIdeal.defs (F := Ideal)) _ _).mono (fun r h c => ?_) (Cert.ReferenceIdeal.Sampled.ref_run m' g')
    obtain ⟨r0, r1⟩ := Cert.KernelIdeal.real_args m hpre c
    obtain ⟨e0, e1, e2, -⟩ := hargs c
    refine ⟨(h c).1.1.trans ?_, (h c).1.2.trans ?_, (h c).2⟩
    · rw [e0, e2]
      exact (funext (gradInput_eq m c)).symm
    · rw [e0, e1, e2]
      exact (funext (gradGrid_eq m c r0 r1)).symm

/-- All the claims: the frames of both programs, the preservation, and the equal results. -/
theorem claim : Cert.Claim :=
  ⟨Cert.Kernel.Gen.facts, Cert.KernelIdeal.Gen.facts, Cert.ReferenceIdeal.Gen.facts, Cert.Pre_finite.Gen.facts,
    fun m g _ => kernel_frame m g,
    fun m g _ => (θ_run (Cert.KernelIdeal.defs (F := Ideal)) _ _).mono (fun _ h => ⟨fun c => (h.1 c).1, h.2⟩) (run_read m g),
    fun m g _ => (θ_run (Cert.KernelIdeal.defs (F := Ideal)) _ _).mono (fun _ h => ⟨fun c => (h.1 c).1, h.2⟩) (run_read m g),
    fun m g _ => reference_frame m g,
    fun m g _ => reference_frame m g,
    trivial,
    equal_results _⟩

end Cert.Proof

end
